-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S32768x9x16 : Shape := ⟨3, ![32768, 9, 16]⟩
abbrev S32768x9 : Shape := ⟨2, ![32768, 9]⟩
abbrev S1x15x16x16 : Shape := ⟨4, ![1, 15, 16, 16]⟩
abbrev S137 : Shape := ⟨1, ![137]⟩
abbrev S51 : Shape := ⟨1, ![51]⟩
abbrev S_ : Shape := ⟨0, ![]⟩

class Facts : Prop where
  bcast_S_S32768x9x16 : S_.BroadcastsInDim S32768x9x16 (![] : Fin 0 → Fin S32768x9x16.rank)
  bcast_S_S32768x9 : S_.BroadcastsInDim S32768x9 (![] : Fin 0 → Fin S32768x9.rank)
  bcast_S_S1x15x16x16 : S_.BroadcastsInDim S1x15x16x16 (![] : Fin 0 → Fin S1x15x16x16.rank)
  bcast_S_S137 : S_.BroadcastsInDim S137 (![] : Fin 0 → Fin S137.rank)
  bcast_S_S51 : S_.BroadcastsInDim S51 (![] : Fin 0 → Fin S51.rank)

variable [Facts]

def fn_part2 {F : FTy → Type} [FloatOps F] (main_arg7 : IVec S51 32) (main_arg8 : IVec S51 32) (main_v4 : IVec S32768x9x16 1) (main_v9 : IVec S32768x9 1) (main_v14 : IVec S1x15x16x16 1) (main_v19 : IVec S137 1) (main_v24 : IVec S137 1) (main_v29 : IVec S137 1) (main_v31 : IVec S137 1) (main_v33 : IVec S137 1) : IVec S32768x9x16 1 × IVec S32768x9 1 × IVec S1x15x16x16 1 × IVec S137 1 × IVec S137 1 × IVec S137 1 × IVec S137 1 × IVec S51 1 × IVec S51 1 :=
  let main_v34 : IVec S137 1 := andi main_v31 main_v33
  let main_c_12 : IVec S_ 32 := constantI S_ 32 0#32
  let main_v35 : IVec S51 32 := broadcastInDim S51 ![] bcast_S_S51 main_c_12
  let main_v36 : IVec S51 1 := cmpi .sge main_arg7 main_v35
  let main_c_13 : IVec S_ 32 := constantI S_ 32 14#32
  let main_v37 : IVec S51 32 := broadcastInDim S51 ![] bcast_S_S51 main_c_13
  let main_v38 : IVec S51 1 := cmpi .sle main_arg7 main_v37
  let main_v39 : IVec S51 1 := andi main_v36 main_v38
  let main_c_14 : IVec S_ 32 := constantI S_ 32 0#32
  let main_v40 : IVec S51 32 := broadcastInDim S51 ![] bcast_S_S51 main_c_14
  let main_v41 : IVec S51 1 := cmpi .sge main_arg8 main_v40
  let main_c_15 : IVec S_ 32 := constantI S_ 32 8#32
  let main_v42 : IVec S51 32 := broadcastInDim S51 ![] bcast_S_S51 main_c_15
  let main_v43 : IVec S51 1 := cmpi .sle main_arg8 main_v42
  let main_v44 : IVec S51 1 := andi main_v41 main_v43
  (main_v4, main_v9, main_v14, main_v19, main_v24, main_v29, main_v34, main_v39, main_v44)

def fn_part1 {F : FTy → Type} [FloatOps F] (main_arg3 : FVec F S137 .f32) (main_arg4 : IVec S137 32) (main_arg5 : IVec S137 32) (main_arg6 : IVec S137 32) (main_arg7 : IVec S51 32) (main_arg8 : IVec S51 32) (main_v4 : IVec S32768x9x16 1) (main_v9 : IVec S32768x9 1) (main_v14 : IVec S1x15x16x16 1) (main_v16 : IVec S137 1) : IVec S32768x9x16 1 × IVec S32768x9 1 × IVec S1x15x16x16 1 × IVec S137 1 × IVec S137 1 × IVec S137 1 × IVec S137 1 × IVec S51 1 × IVec S51 1 :=
  let main_cst_6 : FVec F S_ .f32 := constant S_ .f32 0x7F800000#32
  let main_v17 : FVec F S137 .f32 := broadcastInDim S137 ![] bcast_S_S137 main_cst_6
  let main_v18 : IVec S137 1 := cmpf .olt main_arg3 main_v17
  let main_v19 : IVec S137 1 := andi main_v16 main_v18
  let main_c : IVec S_ 32 := constantI S_ 32 0#32
  let main_v20 : IVec S137 32 := broadcastInDim S137 ![] bcast_S_S137 main_c
  let main_v21 : IVec S137 1 := cmpi .sge main_arg4 main_v20
  let main_c_7 : IVec S_ 32 := constantI S_ 32 8#32
  let main_v22 : IVec S137 32 := broadcastInDim S137 ![] bcast_S_S137 main_c_7
  let main_v23 : IVec S137 1 := cmpi .sle main_arg4 main_v22
  let main_v24 : IVec S137 1 := andi main_v21 main_v23
  let main_c_8 : IVec S_ 32 := constantI S_ 32 0#32
  let main_v25 : IVec S137 32 := broadcastInDim S137 ![] bcast_S_S137 main_c_8
  let main_v26 : IVec S137 1 := cmpi .sge main_arg5 main_v25
  let main_c_9 : IVec S_ 32 := constantI S_ 32 8#32
  let main_v27 : IVec S137 32 := broadcastInDim S137 ![] bcast_S_S137 main_c_9
  let main_v28 : IVec S137 1 := cmpi .sle main_arg5 main_v27
  let main_v29 : IVec S137 1 := andi main_v26 main_v28
  let main_c_10 : IVec S_ 32 := constantI S_ 32 0#32
  let main_v30 : IVec S137 32 := broadcastInDim S137 ![] bcast_S_S137 main_c_10
  let main_v31 : IVec S137 1 := cmpi .sge main_arg6 main_v30
  let main_c_11 : IVec S_ 32 := constantI S_ 32 50#32
  let main_v32 : IVec S137 32 := broadcastInDim S137 ![] bcast_S_S137 main_c_11
  let main_v33 : IVec S137 1 := cmpi .sle main_arg6 main_v32
  fn_part2 (F := F) main_arg7 main_arg8 main_v4 main_v9 main_v14 main_v19 main_v24 main_v29 main_v31 main_v33

def fn {F : FTy → Type} [FloatOps F] (main_arg0 : FVec F S32768x9x16 .f32) (main_arg1 : FVec F S32768x9 .f32) (main_arg2 : FVec F S1x15x16x16 .f32) (main_arg3 : FVec F S137 .f32) (main_arg4 : IVec S137 32) (main_arg5 : IVec S137 32) (main_arg6 : IVec S137 32) (main_arg7 : IVec S51 32) (main_arg8 : IVec S51 32) : IVec S32768x9x16 1 × IVec S32768x9 1 × IVec S1x15x16x16 1 × IVec S137 1 × IVec S137 1 × IVec S137 1 × IVec S137 1 × IVec S51 1 × IVec S51 1 :=
  let main_cst : FVec F S_ .f32 := constant S_ .f32 0xFF800000#32
  let main_v0 : FVec F S32768x9x16 .f32 := broadcastInDim S32768x9x16 ![] bcast_S_S32768x9x16 main_cst
  let main_v1 : IVec S32768x9x16 1 := cmpf .ogt main_arg0 main_v0
  let main_cst_0 : FVec F S_ .f32 := constant S_ .f32 0x7F800000#32
  let main_v2 : FVec F S32768x9x16 .f32 := broadcastInDim S32768x9x16 ![] bcast_S_S32768x9x16 main_cst_0
  let main_v3 : IVec S32768x9x16 1 := cmpf .olt main_arg0 main_v2
  let main_v4 : IVec S32768x9x16 1 := andi main_v1 main_v3
  let main_cst_1 : FVec F S_ .f32 := constant S_ .f32 0xFF800000#32
  let main_v5 : FVec F S32768x9 .f32 := broadcastInDim S32768x9 ![] bcast_S_S32768x9 main_cst_1
  let main_v6 : IVec S32768x9 1 := cmpf .ogt main_arg1 main_v5
  let main_cst_2 : FVec F S_ .f32 := constant S_ .f32 0x7F800000#32
  let main_v7 : FVec F S32768x9 .f32 := broadcastInDim S32768x9 ![] bcast_S_S32768x9 main_cst_2
  let main_v8 : IVec S32768x9 1 := cmpf .olt main_arg1 main_v7
  let main_v9 : IVec S32768x9 1 := andi main_v6 main_v8
  let main_cst_3 : FVec F S_ .f32 := constant S_ .f32 0xFF800000#32
  let main_v10 : FVec F S1x15x16x16 .f32 := broadcastInDim S1x15x16x16 ![] bcast_S_S1x15x16x16 main_cst_3
  let main_v11 : IVec S1x15x16x16 1 := cmpf .ogt main_arg2 main_v10
  let main_cst_4 : FVec F S_ .f32 := constant S_ .f32 0x7F800000#32
  let main_v12 : FVec F S1x15x16x16 .f32 := broadcastInDim S1x15x16x16 ![] bcast_S_S1x15x16x16 main_cst_4
  let main_v13 : IVec S1x15x16x16 1 := cmpf .olt main_arg2 main_v12
  let main_v14 : IVec S1x15x16x16 1 := andi main_v11 main_v13
  let main_cst_5 : FVec F S_ .f32 := constant S_ .f32 0xFF800000#32
  let main_v15 : FVec F S137 .f32 := broadcastInDim S137 ![] bcast_S_S137 main_cst_5
  let main_v16 : IVec S137 1 := cmpf .ogt main_arg3 main_v15
  fn_part1 (F := F) main_arg3 main_arg4 main_arg5 main_arg6 main_arg7 main_arg8 main_v4 main_v9 main_v14 main_v16
-- ==== Kernel.lean ====
abbrev S32768x9x16 : Shape := ⟨3, ![32768, 9, 16]⟩
abbrev S32768x9 : Shape := ⟨2, ![32768, 9]⟩
abbrev S1x15x16x16 : Shape := ⟨4, ![1, 15, 16, 16]⟩
abbrev S137 : Shape := ⟨1, ![137]⟩
abbrev S51 : Shape := ⟨1, ![51]⟩
abbrev S15x16x16 : Shape := ⟨3, ![15, 16, 16]⟩
abbrev S_ : Shape := ⟨0, ![]⟩
abbrev S137x1 : Shape := ⟨2, ![137, 1]⟩
abbrev S137x16x16 : Shape := ⟨3, ![137, 16, 16]⟩
abbrev S9x9x16x9x16 : Shape := ⟨5, ![9, 9, 16, 9, 16]⟩
abbrev S137x1x1 : Shape := ⟨3, ![137, 1, 1]⟩
abbrev S137x3 : Shape := ⟨2, ![137, 3]⟩
abbrev S9x256x144 : Shape := ⟨3, ![9, 256, 144]⟩
abbrev S9x144x144 : Shape := ⟨3, ![9, 144, 144]⟩
abbrev S1 : Shape := ⟨1, ![1]⟩
abbrev S2304x144 : Shape := ⟨2, ![2304, 144]⟩
abbrev S32768x144 : Shape := ⟨2, ![32768, 144]⟩
abbrev S4x2048x144 : Shape := ⟨3, ![4, 2048, 144]⟩
abbrev S4x2048x9 : Shape := ⟨3, ![4, 2048, 9]⟩
abbrev S2048x2304 : Shape := ⟨2, ![2048, 2304]⟩
abbrev S4 : Shape := ⟨1, ![4]⟩
abbrev S1x2048x144 : Shape := ⟨3, ![1, 2048, 144]⟩
abbrev S2048x144 : Shape := ⟨2, ![2048, 144]⟩
abbrev S1x2048x9 : Shape := ⟨3, ![1, 2048, 9]⟩
abbrev S2048x9 : Shape := ⟨2, ![2048, 9]⟩
abbrev S2048x1 : Shape := ⟨2, ![2048, 1]⟩

abbrev nBuf : Space → Nat
  | .hbm => 79
  | .vmem => 5
  | .smem => 0
  | _ => 0

abbrev bufTy : (tb : Table) → Fin (tcTables nBuf tb) → BufTy
  | .hbm, ⟨0, _⟩ => ⟨S32768x9x16, .f32⟩
  | .hbm, ⟨1, _⟩ => ⟨S32768x9, .f32⟩
  | .hbm, ⟨2, _⟩ => ⟨S1x15x16x16, .f32⟩
  | .hbm, ⟨3, _⟩ => ⟨S137, .f32⟩
  | .hbm, ⟨4, _⟩ => ⟨S137, .i32⟩
  | .hbm, ⟨5, _⟩ => ⟨S137, .i32⟩
  | .hbm, ⟨6, _⟩ => ⟨S137, .i32⟩
  | .hbm, ⟨7, _⟩ => ⟨S51, .i32⟩
  | .hbm, ⟨8, _⟩ => ⟨S51, .i32⟩
  | .hbm, ⟨9, _⟩ => ⟨S15x16x16, .f32⟩
  | .hbm, ⟨10, _⟩ => ⟨S_, .i32⟩
  | .hbm, ⟨11, _⟩ => ⟨S137, .i32⟩
  | .hbm, ⟨12, _⟩ => ⟨S137, .i1⟩
  | .hbm, ⟨13, _⟩ => ⟨S_, .i32⟩
  | .hbm, ⟨14, _⟩ => ⟨S137, .i32⟩
  | .hbm, ⟨15, _⟩ => ⟨S137, .i32⟩
  | .hbm, ⟨16, _⟩ => ⟨S137, .i32⟩
  | .hbm, ⟨17, _⟩ => ⟨S137x1, .i32⟩
  | .hbm, ⟨18, _⟩ => ⟨S137, .i32⟩
  | .hbm, ⟨19, _⟩ => ⟨S_, .i32⟩
  | .hbm, ⟨20, _⟩ => ⟨S137, .i32⟩
  | .hbm, ⟨21, _⟩ => ⟨S137, .i1⟩
  | .hbm, ⟨22, _⟩ => ⟨S_, .i32⟩
  | .hbm, ⟨23, _⟩ => ⟨S137, .i32⟩
  | .hbm, ⟨24, _⟩ => ⟨S137, .i32⟩
  | .hbm, ⟨25, _⟩ => ⟨S137, .i32⟩
  | .hbm, ⟨26, _⟩ => ⟨S137x1, .i32⟩
  | .hbm, ⟨27, _⟩ => ⟨S137x16x16, .f32⟩
  | .hbm, ⟨28, _⟩ => ⟨S_, .i32⟩
  | .hbm, ⟨29, _⟩ => ⟨S137, .i32⟩
  | .hbm, ⟨30, _⟩ => ⟨S137, .i1⟩
  | .hbm, ⟨31, _⟩ => ⟨S_, .i32⟩
  | .hbm, ⟨32, _⟩ => ⟨S137, .i32⟩
  | .hbm, ⟨33, _⟩ => ⟨S137, .i32⟩
  | .hbm, ⟨34, _⟩ => ⟨S137, .i32⟩
  | .hbm, ⟨35, _⟩ => ⟨S137x1, .i32⟩
  | .hbm, ⟨36, _⟩ => ⟨S137, .i32⟩
  | .hbm, ⟨37, _⟩ => ⟨S_, .f32⟩
  | .hbm, ⟨38, _⟩ => ⟨S9x9x16x9x16, .f32⟩
  | .hbm, ⟨39, _⟩ => ⟨S137x1x1, .f32⟩
  | .hbm, ⟨40, _⟩ => ⟨S137x16x16, .f32⟩
  | .hbm, ⟨41, _⟩ => ⟨S137x16x16, .f32⟩
  | .hbm, ⟨42, _⟩ => ⟨S_, .i32⟩
  | .hbm, ⟨43, _⟩ => ⟨S137, .i32⟩
  | .hbm, ⟨44, _⟩ => ⟨S137, .i1⟩
  | .hbm, ⟨45, _⟩ => ⟨S_, .i32⟩
  | .hbm, ⟨46, _⟩ => ⟨S137, .i32⟩
  | .hbm, ⟨47, _⟩ => ⟨S137, .i32⟩
  | .hbm, ⟨48, _⟩ => ⟨S137, .i32⟩
  | .hbm, ⟨49, _⟩ => ⟨S_, .i32⟩
  | .hbm, ⟨50, _⟩ => ⟨S137, .i32⟩
  | .hbm, ⟨51, _⟩ => ⟨S137, .i1⟩
  | .hbm, ⟨52, _⟩ => ⟨S_, .i32⟩
  | .hbm, ⟨53, _⟩ => ⟨S137, .i32⟩
  | .hbm, ⟨54, _⟩ => ⟨S137, .i32⟩
  | .hbm, ⟨55, _⟩ => ⟨S137, .i32⟩
  | .hbm, ⟨56, _⟩ => ⟨S_, .i32⟩
  | .hbm, ⟨57, _⟩ => ⟨S137, .i32⟩
  | .hbm, ⟨58, _⟩ => ⟨S137, .i1⟩
  | .hbm, ⟨59, _⟩ => ⟨S_, .i32⟩
  | .hbm, ⟨60, _⟩ => ⟨S137, .i32⟩
  | .hbm, ⟨61, _⟩ => ⟨S137, .i32⟩
  | .hbm, ⟨62, _⟩ => ⟨S137, .i32⟩
  | .hbm, ⟨63, _⟩ => ⟨S137x1, .i32⟩
  | .hbm, ⟨64, _⟩ => ⟨S137x1, .i32⟩
  | .hbm, ⟨65, _⟩ => ⟨S137x1, .i32⟩
  | .hbm, ⟨66, _⟩ => ⟨S137x3, .i32⟩
  | .hbm, ⟨67, _⟩ => ⟨S9x9x16x9x16, .f32⟩
  | .hbm, ⟨68, _⟩ => ⟨S_, .f32⟩
  | .hbm, ⟨69, _⟩ => ⟨S9x256x144, .f32⟩
  | .hbm, ⟨70, _⟩ => ⟨S9x144x144, .f32⟩
  | .hbm, ⟨71, _⟩ => ⟨S_, .i32⟩
  | .hbm, ⟨72, _⟩ => ⟨S1, .i32⟩
  | .hbm, ⟨73, _⟩ => ⟨S9x256x144, .f32⟩
  | .hbm, ⟨74, _⟩ => ⟨S2304x144, .f32⟩
  | .hbm, ⟨75, _⟩ => ⟨S2304x144, .bf16⟩
  | .hbm, ⟨76, _⟩ => ⟨S32768x144, .f32⟩
  | .hbm, ⟨77, _⟩ => ⟨S32768x144, .f32⟩
  | .hbm, ⟨78, _⟩ => ⟨S32768x9x16, .f32⟩
  | .local _ .vmem, ⟨0, _⟩ => ⟨S2304x144, .bf16⟩
  | .local _ .vmem, ⟨1, _⟩ => ⟨S4x2048x144, .f32⟩
  | .local _ .vmem, ⟨2, _⟩ => ⟨S4x2048x9, .f32⟩
  | .local _ .vmem, ⟨3, _⟩ => ⟨S4x2048x144, .f32⟩
  | .local _ .vmem, ⟨4, _⟩ => ⟨S2048x2304, .bf16⟩
  | _, _ => ⟨S32768x9x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_c_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_42 : BitVec 32 := 0#32
  let c16_i32 : BitVec 32 := 16#32
  let v44 : BitVec 32 := Scalar.addi c0_i32_42 c16_i32
  let c1_i32_43 : BitVec 32 := 1#32
  ⟨c0_i32_42, v44, c1_i32_43⟩
def k0_off1 (k0_t1 : Fin k0_t1_loop.trips) : Fin 1 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  ![v69.toNat]
def k0_off2 (k0_t1 : Fin k0_t1_loop.trips) : Fin 3 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  let c0_i32_62 : BitVec 32 := 0#32
  let c0_i32_63 : BitVec 32 := 0#32
  ![v69.toNat, 0, 0]
def k0_off3 (k0_t1 : Fin k0_t1_loop.trips) : Fin 2 → Nat :=
  let c0_i32_42 : BitVec 32 := 0#32
  let c1_i32_43 : BitVec 32 := 1#32
  let arg11 : BitVec 32 := Scf.iv c0_i32_42 c1_i32_43 k0_t1
  let c2048_i32_61 : BitVec 32 := 2048#32
  let v70 : BitVec 32 := Scalar.muli arg11 c2048_i32_61
  let c0_i32_64 : BitVec 32 := 0#32
  ![v70.toNat, 0]
def k0_off4 (k0_t1 : Fin k0_t1_loop.trips) : Fin 3 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  let c0_i32_66 : BitVec 32 := 0#32
  let c0_i32_67 : BitVec 32 := 0#32
  ![v69.toNat, 0, 0]
def k0_off5 (k0_t1 : Fin k0_t1_loop.trips) : Fin 2 → Nat :=
  let c0_i32_42 : BitVec 32 := 0#32
  let c1_i32_43 : BitVec 32 := 1#32
  let arg11 : BitVec 32 := Scf.iv c0_i32_42 c1_i32_43 k0_t1
  let c2048_i32_65 : BitVec 32 := 2048#32
  let v76 : BitVec 32 := Scalar.muli arg11 c2048_i32_65
  let c0_i32_68 : BitVec 32 := 0#32
  ![v76.toNat, 0]
def k0_cond1 (k0_t1 : Fin k0_t1_loop.trips) : BitVec 1 :=
  let c0_i32_42 : BitVec 32 := 0#32
  let c1_i32_43 : BitVec 32 := 1#32
  let arg11 : BitVec 32 := Scf.iv c0_i32_42 c1_i32_43 k0_t1
  let c4_i32_69 : BitVec 32 := 4#32
  let v82 : BitVec 1 := Scalar.cmpi .sge arg11 c4_i32_69
  let v83 : BitVec 32 := Scalar.extui v82
  let c0_i32_70 : BitVec 32 := 0#32
  let v84 : BitVec 1 := Scalar.cmpi .ne v83 c0_i32_70
  v84

def k0_off6 (k0_t1 : Fin k0_t1_loop.trips) : Fin 1 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  ![v69.toNat]
def k0_off7 (k0_t1 : Fin k0_t1_loop.trips) : Fin 2 → Nat :=
  let c0_i32_42 : BitVec 32 := 0#32
  let c1_i32_43 : BitVec 32 := 1#32
  let arg11 : BitVec 32 := Scf.iv c0_i32_42 c1_i32_43 k0_t1
  let c4_i32_99 : BitVec 32 := 4#32
  let v165 : BitVec 32 := Scalar.subi arg11 c4_i32_99
  let c2048_i32_100 : BitVec 32 := 2048#32
  let v166 : BitVec 32 := Scalar.muli v165 c2048_i32_100
  let c0_i32_101 : BitVec 32 := 0#32
  ![v166.toNat, 0]
def k0_off8 (k0_t1 : Fin k0_t1_loop.trips) : Fin 3 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  let c0_i32_102 : BitVec 32 := 0#32
  let c0_i32_103 : BitVec 32 := 0#32
  ![v69.toNat, 0, 0]
def k0_off9 (k0_t1 : Fin k0_t1_loop.trips) : Fin 3 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  let v85 : Index := Scalar.indexCast v69
  let c0_71 : Index := 0#32
  let c0_72 : Index := 0#32
  ![v85.toNat, 0, 0]
def k0_off10 (k0_t1 : Fin k0_t1_loop.trips) : Fin 3 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  let v89 : Index := Scalar.indexCast v69
  let c0_73 : Index := 0#32
  let c0_74 : Index := 0#32
  ![v89.toNat, 0, 0]
def k0_cond2 (k0_t1 : Fin k0_t1_loop.trips) : BitVec 1 :=
  let c0_i32_42 : BitVec 32 := 0#32
  let c1_i32_43 : BitVec 32 := 1#32
  let arg11 : BitVec 32 := Scf.iv c0_i32_42 c1_i32_43 k0_t1
  let c4_i32_96 : BitVec 32 := 4#32
  let v161 : BitVec 32 := Scalar.addi arg11 c4_i32_96
  let c16_i32_97 : BitVec 32 := 16#32
  let v162 : BitVec 1 := Scalar.cmpi .slt v161 c16_i32_97
  let v163 : BitVec 32 := Scalar.extui v162
  let c0_i32_98 : BitVec 32 := 0#32
  let v164 : BitVec 1 := Scalar.cmpi .ne v163 c0_i32_98
  v164

def k0_off11 (k0_t1 : Fin k0_t1_loop.trips) : Fin 1 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  ![v69.toNat]
def k0_off12 (k0_t1 : Fin k0_t1_loop.trips) : Fin 3 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  let c0_i32_101 : BitVec 32 := 0#32
  let c0_i32_102 : BitVec 32 := 0#32
  ![v69.toNat, 0, 0]
def k0_off13 (k0_t1 : Fin k0_t1_loop.trips) : Fin 2 → Nat :=
  let c0_i32_42 : BitVec 32 := 0#32
  let c1_i32_43 : BitVec 32 := 1#32
  let arg11 : BitVec 32 := Scf.iv c0_i32_42 c1_i32_43 k0_t1
  let c4_i32_99 : BitVec 32 := 4#32
  let v165 : BitVec 32 := Scalar.addi arg11 c4_i32_99
  let c2048_i32_100 : BitVec 32 := 2048#32
  let v166 : BitVec 32 := Scalar.muli v165 c2048_i32_100
  let c0_i32_103 : BitVec 32 := 0#32
  ![v166.toNat, 0]
def k0_off14 (k0_t1 : Fin k0_t1_loop.trips) : Fin 3 → Nat :=
  let c0_i32_42 : BitVec 32 := 0#32
  let c1_i32_43 : BitVec 32 := 1#32
  let arg11 : BitVec 32 := Scf.iv c0_i32_42 c1_i32_43 k0_t1
  let c4_i32_60 : BitVec 32 := 4#32
  let v69 : BitVec 32 := Scalar.remsi arg11 c4_i32_60
  let c0_i32_106 : BitVec 32 := 0#32
  let c0_i32_107 : BitVec 32 := 0#32
  ![v69.toNat, 0, 0]
def k0_off15 (k0_t1 : Fin k0_t1_loop.trips) : Fin 2 → Nat :=
  let c0_i32_42 : BitVec 32 := 0#32
  let c1_i32_43 : BitVec 32 := 1#32
  let arg11 : BitVec 32 := Scf.iv c0_i32_42 c1_i32_43 k0_t1
  let c4_i32_104 : BitVec 32 := 4#32
  let v172 : BitVec 32 := Scalar.addi arg11 c4_i32_104
  let c2048_i32_105 : BitVec 32 := 2048#32
  let v173 : BitVec 32 := Scalar.muli v172 c2048_i32_105
  let c0_i32_108 : BitVec 32 := 0#32
  ![v173.toNat, 0]
def k0_off16 (c12_i32 : BitVec 32) : Fin 1 → Nat :=
  let c4_i32 : BitVec 32 := 4#32
  let v45 : BitVec 32 := Scalar.remsi c12_i32 c4_i32
  ![v45.toNat]
def k0_off17 (c12_i32 : BitVec 32) : Fin 3 → Nat :=
  let c4_i32 : BitVec 32 := 4#32
  let v45 : BitVec 32 := Scalar.remsi c12_i32 c4_i32
  let c0_i32_46 : BitVec 32 := 0#32
  let c0_i32_47 : BitVec 32 := 0#32
  ![v45.toNat, 0, 0]
abbrev stage0_0 : Fin 1 → Memref sig .tc .vmem S2304x144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x9x16 : Shape := ⟨3, ![32768, 9, 16]⟩
abbrev S32768x9 : Shape := ⟨2, ![32768, 9]⟩
abbrev S1x15x16x16 : Shape := ⟨4, ![1, 15, 16, 16]⟩
abbrev S137 : Shape := ⟨1, ![137]⟩
abbrev S51 : Shape := ⟨1, ![51]⟩
abbrev S_ : Shape := ⟨0, ![]⟩
abbrev S137x1 : Shape := ⟨2, ![137, 1]⟩
abbrev S1 : Shape := ⟨1, ![1]⟩
abbrev S1x1 : Shape := ⟨2, ![1, 1]⟩
abbrev S32768x137x16 : Shape := ⟨3, ![32768, 137, 16]⟩
abbrev S32768x137 : Shape := ⟨2, ![32768, 137]⟩
abbrev S1x137 : Shape := ⟨2, ![1, 137]⟩
abbrev S32768x137x1 : Shape := ⟨3, ![32768, 137, 1]⟩
abbrev S137x32768x16 : Shape := ⟨3, ![137, 32768, 16]⟩
abbrev S51x32768x16 : Shape := ⟨3, ![51, 32768, 16]⟩
abbrev S32768x51x16 : Shape := ⟨3, ![32768, 51, 16]⟩
abbrev S15x16x16 : Shape := ⟨3, ![15, 16, 16]⟩
abbrev S51x1 : Shape := ⟨2, ![51, 1]⟩
abbrev S51x16x16 : Shape := ⟨3, ![51, 16, 16]⟩
abbrev S51x16x32768 : Shape := ⟨3, ![51, 16, 32768]⟩
abbrev S9x32768x16 : Shape := ⟨3, ![9, 32768, 16]⟩

abbrev nBuf : Space → Nat
  | .hbm => 99
  | .vmem => 0
  | .smem => 0
  | _ => 0

abbrev bufTy : (tb : Table) → Fin (tcTables nBuf tb) → BufTy
  | .hbm, ⟨0, _⟩ => ⟨S32768x9x16, .f32⟩
  | .hbm, ⟨1, _⟩ => ⟨S32768x9, .f32⟩
  | .hbm, ⟨2, _⟩ => ⟨S1x15x16x16, .f32⟩
  | .hbm, ⟨3, _⟩ => ⟨S137, .f32⟩
  | .hbm, ⟨4, _⟩ => ⟨S137, .i32⟩
  | .hbm, ⟨5, _⟩ => ⟨S137, .i32⟩
  | .hbm, ⟨6, _⟩ => ⟨S137, .i32⟩
  | .hbm, ⟨7, _⟩ => ⟨S51, .i32⟩
  | .hbm, ⟨8, _⟩ => ⟨S51, .i32⟩
  | .hbm, ⟨9, _⟩ => ⟨S_, .i32⟩
  | .hbm, ⟨10, _⟩ => ⟨S137, .i32⟩
  | .hbm, ⟨11, _⟩ => ⟨S137, .i1⟩
  | .hbm, ⟨12, _⟩ => ⟨S_, .i32⟩
  | .hbm, ⟨13, _⟩ => ⟨S137, .i32⟩
  | .hbm, ⟨14, _⟩ => ⟨S137, .i32⟩
  | .hbm, ⟨15, _⟩ => ⟨S137, .i32⟩
  | .hbm, ⟨16, _⟩ => ⟨S137x1, .i32⟩
  | .hbm, ⟨17, _⟩ => ⟨S1, .i32⟩
  | .hbm, ⟨18, _⟩ => ⟨S_, .i32⟩
  | .hbm, ⟨19, _⟩ => ⟨S137x1, .i32⟩
  | .hbm, ⟨20, _⟩ => ⟨S137x1, .i1⟩
  | .hbm, ⟨21, _⟩ => ⟨S1x1, .i32⟩
  | .hbm, ⟨22, _⟩ => ⟨S137x1, .i32⟩
  | .hbm, ⟨23, _⟩ => ⟨S137x1, .i1⟩
  | .hbm, ⟨24, _⟩ => ⟨S137x1, .i1⟩
  | .hbm, ⟨25, _⟩ => ⟨S_, .i1⟩
  | .hbm, ⟨26, _⟩ => ⟨S137, .i1⟩
  | .hbm, ⟨27, _⟩ => ⟨S32768x137x16, .f32⟩
  | .hbm, ⟨28, _⟩ => ⟨S32768x137x16, .i1⟩
  | .hbm, ⟨29, _⟩ => ⟨S_, .f32⟩
  | .hbm, ⟨30, _⟩ => ⟨S32768x137x16, .f32⟩
  | .hbm, ⟨31, _⟩ => ⟨S32768x137x16, .f32⟩
  | .hbm, ⟨32, _⟩ => ⟨S_, .i32⟩
  | .hbm, ⟨33, _⟩ => ⟨S137, .i32⟩
  | .hbm, ⟨34, _⟩ => ⟨S137, .i1⟩
  | .hbm, ⟨35, _⟩ => ⟨S_, .i32⟩
  | .hbm, ⟨36, _⟩ => ⟨S137, .i32⟩
  | .hbm, ⟨37, _⟩ => ⟨S137, .i32⟩
  | .hbm, ⟨38, _⟩ => ⟨S137, .i32⟩
  | .hbm, ⟨39, _⟩ => ⟨S137x1, .i32⟩
  | .hbm, ⟨40, _⟩ => ⟨S1, .i32⟩
  | .hbm, ⟨41, _⟩ => ⟨S_, .i32⟩
  | .hbm, ⟨42, _⟩ => ⟨S137x1, .i32⟩
  | .hbm, ⟨43, _⟩ => ⟨S137x1, .i1⟩
  | .hbm, ⟨44, _⟩ => ⟨S1x1, .i32⟩
  | .hbm, ⟨45, _⟩ => ⟨S137x1, .i32⟩
  | .hbm, ⟨46, _⟩ => ⟨S137x1, .i1⟩
  | .hbm, ⟨47, _⟩ => ⟨S137x1, .i1⟩
  | .hbm, ⟨48, _⟩ => ⟨S_, .i1⟩
  | .hbm, ⟨49, _⟩ => ⟨S137, .i1⟩
  | .hbm, ⟨50, _⟩ => ⟨S32768x137, .f32⟩
  | .hbm, ⟨51, _⟩ => ⟨S32768x137, .i1⟩
  | .hbm, ⟨52, _⟩ => ⟨S_, .f32⟩
  | .hbm, ⟨53, _⟩ => ⟨S32768x137, .f32⟩
  | .hbm, ⟨54, _⟩ => ⟨S32768x137, .f32⟩
  | .hbm, ⟨55, _⟩ => ⟨S1x137, .f32⟩
  | .hbm, ⟨56, _⟩ => ⟨S32768x137, .f32⟩
  | .hbm, ⟨57, _⟩ => ⟨S32768x137, .f32⟩
  | .hbm, ⟨58, _⟩ => ⟨S32768x137x1, .f32⟩
  | .hbm, ⟨59, _⟩ => ⟨S32768x137x16, .f32⟩
  | .hbm, ⟨60, _⟩ => ⟨S32768x137x16, .f32⟩
  | .hbm, ⟨61, _⟩ => ⟨S137x32768x16, .f32⟩
  | .hbm, ⟨62, _⟩ => ⟨S_, .f32⟩
  | .hbm, ⟨63, _⟩ => ⟨S51x32768x16, .f32⟩
  | .hbm, ⟨64, _⟩ => ⟨S137x1, .i32⟩
  | .hbm, ⟨65, _⟩ => ⟨S51x32768x16, .f32⟩
  | .hbm, ⟨66, _⟩ => ⟨S32768x51x16, .f32⟩
  | .hbm, ⟨67, _⟩ => ⟨S15x16x16, .f32⟩
  | .hbm, ⟨68, _⟩ => ⟨S_, .i32⟩
  | .hbm, ⟨69, _⟩ => ⟨S51, .i32⟩
  | .hbm, ⟨70, _⟩ => ⟨S51, .i1⟩
  | .hbm, ⟨71, _⟩ => ⟨S_, .i32⟩
  | .hbm, ⟨72, _⟩ => ⟨S51, .i32⟩
  | .hbm, ⟨73, _⟩ => ⟨S51, .i32⟩
  | .hbm, ⟨74, _⟩ => ⟨S51, .i32⟩
  | .hbm, ⟨75, _⟩ => ⟨S51x1, .i32⟩
  | .hbm, ⟨76, _⟩ => ⟨S1, .i32⟩
  | .hbm, ⟨77, _⟩ => ⟨S_, .i32⟩
  | .hbm, ⟨78, _⟩ => ⟨S51x1, .i32⟩
  | .hbm, ⟨79, _⟩ => ⟨S51x1, .i1⟩
  | .hbm, ⟨80, _⟩ => ⟨S1x1, .i32⟩
  | .hbm, ⟨81, _⟩ => ⟨S51x1, .i32⟩
  | .hbm, ⟨82, _⟩ => ⟨S51x1, .i1⟩
  | .hbm, ⟨83, _⟩ => ⟨S51x1, .i1⟩
  | .hbm, ⟨84, _⟩ => ⟨S_, .i1⟩
  | .hbm, ⟨85, _⟩ => ⟨S51, .i1⟩
  | .hbm, ⟨86, _⟩ => ⟨S51x16x16, .f32⟩
  | .hbm, ⟨87, _⟩ => ⟨S51x16x16, .i1⟩
  | .hbm, ⟨88, _⟩ => ⟨S_, .f32⟩
  | .hbm, ⟨89, _⟩ => ⟨S51x16x16, .f32⟩
  | .hbm, ⟨90, _⟩ => ⟨S51x16x16, .f32⟩
  | .hbm, ⟨91, _⟩ => ⟨S51x16x32768, .f32⟩
  | .hbm, ⟨92, _⟩ => ⟨S32768x51x16, .f32⟩
  | .hbm, ⟨93, _⟩ => ⟨S51x32768x16, .f32⟩
  | .hbm, ⟨94, _⟩ => ⟨S_, .f32⟩
  | .hbm, ⟨95, _⟩ => ⟨S9x32768x16, .f32⟩
  | .hbm, ⟨96, _⟩ => ⟨S51x1, .i32⟩
  | .hbm, ⟨97, _⟩ => ⟨S9x32768x16, .f32⟩
  | .hbm, ⟨98, _⟩ => ⟨S32768x9x16, .f32⟩
  | _, _ => ⟨S32768x9x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_cst : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_cst_0 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩

abbrev nD : Nat := 1
abbrev τ : Topo := Topo.v7x

variable {F : FTy → Type} [FloatOps F]
-- ==== Proof.KernelRing.lean ====
/-
  The transfer rings of the body, named: chunk `b` of each array in HBM (2048 rows), slot `s` of each scratch
  buffer, slot `s`'s DMA semaphore of each of the three families; the offsets the body computes, in closed form;
  and the equations that read the body's slices as these names.
-/
module

public import proofs.«01_k».proof.Defs
public import proofs.«01_k».proof.Proof.Gen.Kernel.Launch
public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Ring.Trips
public import Idealize.ShloMosaic.Lib.Affine
public import Idealize.ShloMosaic.Lib.Tactic

@[expose] public section

set_option maxRecDepth 8192

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Names -/

abbrev xM : Memref sig .tc .hbm S32768x144 .f32 := Memref.whole main_v52
abbrev hM : Memref sig .tc .hbm S32768x9 .f32 := Memref.whole main_arg1
abbrev oM : Memref sig .tc .hbm S32768x144 .f32 := Memref.whole main_v53
abbrev xB : Memref sig .tc .vmem S4x2048x144 .f32 := Memref.whole cc0_scratch0
abbrev hB : Memref sig .tc .vmem S4x2048x9 .f32 := Memref.whole cc0_scratch1
abbrev oB : Memref sig .tc .vmem S4x2048x144 .f32 := Memref.whole cc0_scratch2
abbrev tB : Memref sig .tc .vmem S2048x2304 .bf16 := Memref.whole cc0_scratch3

/-- Chunk `b` starts at row `2048 b`; -/
abbrev chOff (b : Fin 16) : Fin 2 → Nat := ![2048 * b.val, 0]
theorem chOff_inb (b : Fin 16) : ∀ a, chOff b a + S2048x144.size a ≤ S32768x144.size a := by
  have := b.isLt; intro a; fin_cases a
  · show 2048 * b.val + 2048 ≤ 32768; omega
  · show 0 + 144 ≤ 144; omega
theorem chOff_inb9 (b : Fin 16) : ∀ a, chOff b a + S2048x9.size a ≤ S32768x9.size a := by
  have := b.isLt; intro a; fin_cases a
  · show 2048 * b.val + 2048 ≤ 32768; omega
  · show 0 + 9 ≤ 9; omega
/-- slot `s` is the buffer's leading entry `s`; -/
abbrev slotOff (s : Fin 4) : Fin 3 → Nat := ![s.val, 0, 0]
theorem slotOff_inb (s : Fin 4) : ∀ a, slotOff s a + S1x2048x144.size a ≤ S4x2048x144.size a := by
  have := s.isLt; intro a; fin_cases a
  · show s.val + 1 ≤ 4; omega
  · show 0 + 2048 ≤ 2048; omega
  · show 0 + 144 ≤ 144; omega
theorem slotOff_inb9 (s : Fin 4) : ∀ a, slotOff s a + S1x2048x9.size a ≤ S4x2048x9.size a := by
  have := s.isLt; intro a; fin_cases a
  · show s.val + 1 ≤ 4; omega
  · show 0 + 2048 ≤ 2048; omega
  · show 0 + 9 ≤ 9; omega
/-- its semaphore is the array's entry `s`. -/
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Chunk `b` of `x`. -/
def xCh (b : Fin 16) : Memref sig .tc .hbm S2048x144 .f32 := xM.slice (Rect.unit (s := S32768x144) (chOff b) S2048x144.size (chOff_inb b)) (fun _ => rfl)
/-- Chunk `b` of `sh`. -/
def hCh (b : Fin 16) : Memref sig .tc .hbm S2048x9 .f32 := hM.slice (Rect.unit (s := S32768x9) (chOff b) S2048x9.size (chOff_inb9 b)) (fun _ => rfl)
/-- Chunk `b` of the result. -/
def oCh (b : Fin 16) : Memref sig .tc .hbm S2048x144 .f32 := oM.slice (Rect.unit (s := S32768x144) (chOff b) S2048x144.size (chOff_inb b)) (fun _ => rfl)
/-- Slot `s` of `x`'s buffer. -/
def xSl (s : Fin 4) : Memref sig .tc .vmem S2048x144 .f32 :=
  (xB.slice (Rect.unit (s := S4x2048x144) (slotOff s) S1x2048x144.size (slotOff_inb s)) (fun _ => rfl)).squeeze S2048x144 squeezes_S1x2048x144_S2048x144
/-- Slot `s` of `sh`'s buffer. -/
def hSl (s : Fin 4) : Memref sig .tc .vmem S2048x9 .f32 :=
  (hB.slice (Rect.unit (s := S4x2048x9) (slotOff s) S1x2048x9.size (slotOff_inb9 s)) (fun _ => rfl)).squeeze S2048x9 squeezes_S1x2048x9_S2048x9
/-- Slot `s` of the result's buffer. -/
def oSl (s : Fin 4) : Memref sig .tc .vmem S2048x144 .f32 :=
  (oB.slice (Rect.unit (s := S4x2048x144) (slotOff s) S1x2048x144.size (slotOff_inb s)) (fun _ => rfl)).squeeze S2048x144 squeezes_S1x2048x144_S2048x144
/-- Slot `s`'s semaphore in each family. -/
def xSm (s : Fin 4) : DmaSems sig S_ := (cc0_scratch4.slice (Rect.unit (s := S4) (semOff s) S1.size (semOff_inb s))).squeeze S_ squeezes_S1_S_
def hSm (s : Fin 4) : DmaSems sig S_ := (cc0_scratch5.slice (Rect.unit (s := S4) (semOff s) S1.size (semOff_inb s))).squeeze S_ squeezes_S1_S_
def oSm (s : Fin 4) : DmaSems sig S_ := (cc0_scratch6.slice (Rect.unit (s := S4) (semOff s) S1.size (semOff_inb s))).squeeze S_ squeezes_S1_S_

instance (s : Fin 4) : ClosedOff (slotOff s) := ⟨slotOff s, rfl⟩
instance (b : Fin 16) : ClosedOff (chOff b) := ⟨chOff b, rfl⟩

/-! ## The body's offsets in closed form, over its sixteen trips -/

theorem off1_eq : ∀ k : Fin k0_t1_loop.trips, k0_off1 k = semOff (Ring.sl 4 k.val) := by decide +kernel
theorem off6_eq : ∀ k : Fin k0_t1_loop.trips, k0_off6 k = semOff (Ring.sl 4 k.val) := by decide +kernel
theorem off11_eq : ∀ k : Fin k0_t1_loop.trips, k0_off11 k = semOff (Ring.sl 4 k.val) := by decide +kernel
theorem off2_eq : ∀ k : Fin k0_t1_loop.trips, k0_off2 k = slotOff (Ring.sl 4 k.val) := by decide +kernel
theorem off4_eq : ∀ k : Fin k0_t1_loop.trips, k0_off4 k = slotOff (Ring.sl 4 k.val) := by decide +kernel
theorem off8_eq : ∀ k : Fin k0_t1_loop.trips, k0_off8 k = slotOff (Ring.sl 4 k.val) := by decide +kernel
theorem off9_eq : ∀ k : Fin k0_t1_loop.trips, k0_off9 k = slotOff (Ring.sl 4 k.val) := by decide +kernel
theorem off10_eq : ∀ k : Fin k0_t1_loop.trips, k0_off10 k = slotOff (Ring.sl 4 k.val) := by decide +kernel
theorem off12_eq : ∀ k : Fin k0_t1_loop.trips, k0_off12 k = slotOff (Ring.sl 4 k.val) := by decide +kernel
theorem off14_eq : ∀ k : Fin k0_t1_loop.trips, k0_off14 k = slotOff (Ring.sl 4 k.val) := by decide +kernel
theorem off3_eq : ∀ k : Fin k0_t1_loop.trips, k0_off3 k = chOff (Ring.bk 16 k.val) := by decide +kernel
theorem off5_eq : ∀ k : Fin k0_t1_loop.trips, k0_off5 k = chOff (Ring.bk 16 k.val) := by decide +kernel
theorem off7_eq : ∀ k : Fin k0_t1_loop.trips, k0_cond1 k = 1#1 → k0_off7 k = chOff (Ring.bk 16 (k.val - 4)) := by decide +kernel
theorem off13_eq : ∀ k : Fin k0_t1_loop.trips, k0_cond2 k = 1#1 → k0_off13 k = chOff (Ring.bk 16 (k.val + 4)) := by decide +kernel
theorem off15_eq : ∀ k : Fin k0_t1_loop.trips, k0_cond2 k = 1#1 → k0_off15 k = chOff (Ring.bk 16 (k.val + 4)) := by decide +kernel
/-- The wait on a result's copy runs from trip 4 on; -/
theorem cond1_iff : ∀ k : Fin k0_t1_loop.trips, k0_cond1 k = 1#1 ↔ 4 ≤ k.val := by decide +kernel
/-- the next copies in are issued through trip 11. -/
theorem cond2_iff : ∀ k : Fin k0_t1_loop.trips, k0_cond2 k = 1#1 ↔ k.val + 4 < 16 := by decide +kernel
theorem trips_eq : k0_t1_loop.trips = 16 := by decide +kernel

instance (k : Fin k0_t1_loop.trips) : ClosedOff (k0_off9 k) := ⟨slotOff (Ring.sl 4 k.val), off9_eq k⟩
instance (k : Fin k0_t1_loop.trips) : ClosedOff (k0_off10 k) := ⟨slotOff (Ring.sl 4 k.val), off10_eq k⟩

/-! ## The body's slices are these names -/

section Canon

theorem xSm_congr {off : Fin 1 → Nat} {s : Fin 4} (e : off = semOff s) (hh) :
    (cc0_scratch4.slice (Rect.unit (s := S4) off S1.size hh)).squeeze S_ squeezes_S1_S_ = xSm s := by subst e; rfl
theorem hSm_congr {off : Fin 1 → Nat} {s : Fin 4} (e : off = semOff s) (hh) :
    (cc0_scratch5.slice (Rect.unit (s := S4) off S1.size hh)).squeeze S_ squeezes_S1_S_ = hSm s := by subst e; rfl
theorem oSm_congr {off : Fin 1 → Nat} {s : Fin 4} (e : off = semOff s) (hh) :
    (cc0_scratch6.slice (Rect.unit (s := S4) off S1.size hh)).squeeze S_ squeezes_S1_S_ = oSm s := by subst e; rfl
theorem xSl_congr {off : Fin 3 → Nat} {s : Fin 4} (e : off = slotOff s) (hh hs) :
    (xB.slice (Rect.unit (s := S4x2048x144) off S1x2048x144.size hh) hs).squeeze S2048x144 squeezes_S1x2048x144_S2048x144 = xSl s := by subst e; rfl
theorem hSl_congr {off : Fin 3 → Nat} {s : Fin 4} (e : off = slotOff s) (hh hs) :
    (hB.slice (Rect.unit (s := S4x2048x9) off S1x2048x9.size hh) hs).squeeze S2048x9 squeezes_S1x2048x9_S2048x9 = hSl s := by subst e; rfl
theorem oSl_congr {off : Fin 3 → Nat} {s : Fin 4} (e : off = slotOff s) (hh hs) :
    (oB.slice (Rect.unit (s := S4x2048x144) off S1x2048x144.size hh) hs).squeeze S2048x144 squeezes_S1x2048x144_S2048x144 = oSl s := by subst e; rfl
theorem xCh_congr {off : Fin 2 → Nat} {b : Fin 16} (e : off = chOff b) (hh hs) :
    xM.slice (Rect.unit (s := S32768x144) off S2048x144.size hh) hs = xCh b := by subst e; rfl
theorem hCh_congr {off : Fin 2 → Nat} {b : Fin 16} (e : off = chOff b) (hh hs) :
    hM.slice (Rect.unit (s := S32768x9) off S2048x9.size hh) hs = hCh b := by subst e; rfl
theorem oCh_congr {off : Fin 2 → Nat} {b : Fin 16} (e : off = chOff b) (hh hs) :
    oM.slice (Rect.unit (s := S32768x144) off S2048x144.size hh) hs = oCh b := by subst e; rfl

-- the first four chunks, at literal offsets
@[sl_canon] theorem xSmL0 (hh) : (cc0_scratch4.slice (Rect.unit (s := S4) ![0] S1.size hh)).squeeze S_ squeezes_S1_S_ = xSm 0 := xSm_congr (by decide) _
@[sl_canon] theorem hSmL0 (hh) : (cc0_scratch5.slice (Rect.unit (s := S4) ![0] S1.size hh)).squeeze S_ squeezes_S1_S_ = hSm 0 := hSm_congr (by decide) _
@[sl_canon] theorem xSlL0 (hh hs) : (xB.slice (Rect.unit (s := S4x2048x144) ![0, 0, 0] S1x2048x144.size hh) hs).squeeze S2048x144 squeezes_S1x2048x144_S2048x144 = xSl 0 := xSl_congr (by decide) _ _
@[sl_canon] theorem xChL0 (hh hs) : xM.slice (Rect.unit (s := S32768x144) ![0, 0] S2048x144.size hh) hs = xCh 0 := xCh_congr (by decide) _ _
@[sl_canon] theorem hSlL0 (hh hs) : (hB.slice (Rect.unit (s := S4x2048x9) ![0, 0, 0] S1x2048x9.size hh) hs).squeeze S2048x9 squeezes_S1x2048x9_S2048x9 = hSl 0 := hSl_congr (by decide) _ _
@[sl_canon] theorem hChL0 (hh hs) : hM.slice (Rect.unit (s := S32768x9) ![0, 0] S2048x9.size hh) hs = hCh 0 := hCh_congr (by decide) _ _
@[sl_canon] theorem xSmL1 (hh) : (cc0_scratch4.slice (Rect.unit (s := S4) ![1] S1.size hh)).squeeze S_ squeezes_S1_S_ = xSm 1 := xSm_congr (by decide) _
@[sl_canon] theorem hSmL1 (hh) : (cc0_scratch5.slice (Rect.unit (s := S4) ![1] S1.size hh)).squeeze S_ squeezes_S1_S_ = hSm 1 := hSm_congr (by decide) _
@[sl_canon] theorem xSlL1 (hh hs) : (xB.slice (Rect.unit (s := S4x2048x144) ![1, 0, 0] S1x2048x144.size hh) hs).squeeze S2048x144 squeezes_S1x2048x144_S2048x144 = xSl 1 := xSl_congr (by decide) _ _
@[sl_canon] theorem xChL1 (hh hs) : xM.slice (Rect.unit (s := S32768x144) ![2048, 0] S2048x144.size hh) hs = xCh 1 := xCh_congr (by decide) _ _
@[sl_canon] theorem hSlL1 (hh hs) : (hB.slice (Rect.unit (s := S4x2048x9) ![1, 0, 0] S1x2048x9.size hh) hs).squeeze S2048x9 squeezes_S1x2048x9_S2048x9 = hSl 1 := hSl_congr (by decide) _ _
@[sl_canon] theorem hChL1 (hh hs) : hM.slice (Rect.unit (s := S32768x9) ![2048, 0] S2048x9.size hh) hs = hCh 1 := hCh_congr (by decide) _ _
@[sl_canon] theorem xSmL2 (hh) : (cc0_scratch4.slice (Rect.unit (s := S4) ![2] S1.size hh)).squeeze S_ squeezes_S1_S_ = xSm 2 := xSm_congr (by decide) _
@[sl_canon] theorem hSmL2 (hh) : (cc0_scratch5.slice (Rect.unit (s := S4) ![2] S1.size hh)).squeeze S_ squeezes_S1_S_ = hSm 2 := hSm_congr (by decide) _
@[sl_canon] theorem xSlL2 (hh hs) : (xB.slice (Rect.unit (s := S4x2048x144) ![2, 0, 0] S1x2048x144.size hh) hs).squeeze S2048x144 squeezes_S1x2048x144_S2048x144 = xSl 2 := xSl_congr (by decide) _ _
@[sl_canon] theorem xChL2 (hh hs) : xM.slice (Rect.unit (s := S32768x144) ![4096, 0] S2048x144.size hh) hs = xCh 2 := xCh_congr (by decide) _ _
@[sl_canon] theorem hSlL2 (hh hs) : (hB.slice (Rect.unit (s := S4x2048x9) ![2, 0, 0] S1x2048x9.size hh) hs).squeeze S2048x9 squeezes_S1x2048x9_S2048x9 = hSl 2 := hSl_congr (by decide) _ _
@[sl_canon] theorem hChL2 (hh hs) : hM.slice (Rect.unit (s := S32768x9) ![4096, 0] S2048x9.size hh) hs = hCh 2 := hCh_congr (by decide) _ _
@[sl_canon] theorem xSmL3 (hh) : (cc0_scratch4.slice (Rect.unit (s := S4) ![3] S1.size hh)).squeeze S_ squeezes_S1_S_ = xSm 3 := xSm_congr (by decide) _
@[sl_canon] theorem hSmL3 (hh) : (cc0_scratch5.slice (Rect.unit (s := S4) ![3] S1.size hh)).squeeze S_ squeezes_S1_S_ = hSm 3 := hSm_congr (by decide) _
@[sl_canon] theorem xSlL3 (hh hs) : (xB.slice (Rect.unit (s := S4x2048x144) ![3, 0, 0] S1x2048x144.size hh) hs).squeeze S2048x144 squeezes_S1x2048x144_S2048x144 = xSl 3 := xSl_congr (by decide) _ _
@[sl_canon] theorem xChL3 (hh hs) : xM.slice (Rect.unit (s := S32768x144) ![6144, 0] S2048x144.size hh) hs = xCh 3 := xCh_congr (by decide) _ _
@[sl_canon] theorem hSlL3 (hh hs) : (hB.slice (Rect.unit (s := S4x2048x9) ![3, 0, 0] S1x2048x9.size hh) hs).squeeze S2048x9 squeezes_S1x2048x9_S2048x9 = hSl 3 := hSl_congr (by decide) _ _
@[sl_canon] theorem hChL3 (hh hs) : hM.slice (Rect.unit (s := S32768x9) ![6144, 0] S2048x9.size hh) hs = hCh 3 := hCh_congr (by decide) _ _
-- trip `k`
@[sl_canon] theorem xSmK1 (k : Fin k0_t1_loop.trips) (hh) : (cc0_scratch4.slice (Rect.unit (s := S4) (k0_off1 k) S1.size hh)).squeeze S_ squeezes_S1_S_ = xSm (Ring.sl 4 k.val) := xSm_congr (off1_eq k) _
@[sl_canon] theorem hSmK1 (k : Fin k0_t1_loop.trips) (hh) : (cc0_scratch5.slice (Rect.unit (s := S4) (k0_off1 k) S1.size hh)).squeeze S_ squeezes_S1_S_ = hSm (Ring.sl 4 k.val) := hSm_congr (off1_eq k) _
@[sl_canon] theorem oSmK1 (k : Fin k0_t1_loop.trips) (hh) : (cc0_scratch6.slice (Rect.unit (s := S4) (k0_off1 k) S1.size hh)).squeeze S_ squeezes_S1_S_ = oSm (Ring.sl 4 k.val) := oSm_congr (off1_eq k) _
@[sl_canon] theorem oSmK6 (k : Fin k0_t1_loop.trips) (hh) : (cc0_scratch6.slice (Rect.unit (s := S4) (k0_off6 k) S1.size hh)).squeeze S_ squeezes_S1_S_ = oSm (Ring.sl 4 k.val) := oSm_congr (off6_eq k) _
@[sl_canon] theorem xSmK11 (k : Fin k0_t1_loop.trips) (hh) : (cc0_scratch4.slice (Rect.unit (s := S4) (k0_off11 k) S1.size hh)).squeeze S_ squeezes_S1_S_ = xSm (Ring.sl 4 k.val) := xSm_congr (off11_eq k) _
@[sl_canon] theorem hSmK11 (k : Fin k0_t1_loop.trips) (hh) : (cc0_scratch5.slice (Rect.unit (s := S4) (k0_off11 k) S1.size hh)).squeeze S_ squeezes_S1_S_ = hSm (Ring.sl 4 k.val) := hSm_congr (off11_eq k) _
@[sl_canon] theorem xSlK2 (k : Fin k0_t1_loop.trips) (hh hs) : (xB.slice (Rect.unit (s := S4x2048x144) (k0_off2 k) S1x2048x144.size hh) hs).squeeze S2048x144 squeezes_S1x2048x144_S2048x144 = xSl (Ring.sl 4 k.val) := xSl_congr (off2_eq k) _ _
@[sl_canon] theorem hSlK4 (k : Fin k0_t1_loop.trips) (hh hs) : (hB.slice (Rect.unit (s := S4x2048x9) (k0_off4 k) S1x2048x9.size hh) hs).squeeze S2048x9 squeezes_S1x2048x9_S2048x9 = hSl (Ring.sl 4 k.val) := hSl_congr (off4_eq k) _ _
@[sl_canon] theorem oSlK8 (k : Fin k0_t1_loop.trips) (hh hs) : (oB.slice (Rect.unit (s := S4x2048x144) (k0_off8 k) S1x2048x144.size hh) hs).squeeze S2048x144 squeezes_S1x2048x144_S2048x144 = oSl (Ring.sl 4 k.val) := oSl_congr (off8_eq k) _ _
@[sl_canon] theorem oSlK2 (k : Fin k0_t1_loop.trips) (hh hs) : (oB.slice (Rect.unit (s := S4x2048x144) (k0_off2 k) S1x2048x144.size hh) hs).squeeze S2048x144 squeezes_S1x2048x144_S2048x144 = oSl (Ring.sl 4 k.val) := oSl_congr (off2_eq k) _ _
@[sl_canon] theorem xSlK12 (k : Fin k0_t1_loop.trips) (hh hs) : (xB.slice (Rect.unit (s := S4x2048x144) (k0_off12 k) S1x2048x144.size hh) hs).squeeze S2048x144 squeezes_S1x2048x144_S2048x144 = xSl (Ring.sl 4 k.val) := xSl_congr (off12_eq k) _ _
@[sl_canon] theorem hSlK14 (k : Fin k0_t1_loop.trips) (hh hs) : (hB.slice (Rect.unit (s := S4x2048x9) (k0_off14 k) S1x2048x9.size hh) hs).squeeze S2048x9 squeezes_S1x2048x9_S2048x9 = hSl (Ring.sl 4 k.val) := hSl_congr (off14_eq k) _ _
@[sl_canon] theorem xChK3 (k : Fin k0_t1_loop.trips) (hh hs) : xM.slice (Rect.unit (s := S32768x144) (k0_off3 k) S2048x144.size hh) hs = xCh (Ring.bk 16 (k.val)) := xCh_congr (off3_eq k) _ _
@[sl_canon] theorem hChK5 (k : Fin k0_t1_loop.trips) (hh hs) : hM.slice (Rect.unit (s := S32768x9) (k0_off5 k) S2048x9.size hh) hs = hCh (Ring.bk 16 (k.val)) := hCh_congr (off5_eq k) _ _
@[sl_canon] theorem oChK3 (k : Fin k0_t1_loop.trips) (hh hs) : oM.slice (Rect.unit (s := S32768x144) (k0_off3 k) S2048x144.size hh) hs = oCh (Ring.bk 16 (k.val)) := oCh_congr (off3_eq k) _ _
@[sl_canon] theorem oChK7 (k : Fin k0_t1_loop.trips) (h1 : k0_cond1 k = 1#1) (hh hs) : oM.slice (Rect.unit (s := S32768x144) (k0_off7 k) S2048x144.size hh) hs = oCh (Ring.bk 16 (k.val - 4)) := oCh_congr (off7_eq k h1) _ _
@[sl_canon] theorem xChK13 (k : Fin k0_t1_loop.trips) (h2 : k0_cond2 k = 1#1) (hh hs) : xM.slice (Rect.unit (s := S32768x144) (k0_off13 k) S2048x144.size hh) hs = xCh (Ring.bk 16 (k.val + 4)) := xCh_congr (off13_eq k h2) _ _
@[sl_canon] theorem hChK15 (k : Fin k0_t1_loop.trips) (h2 : k0_cond2 k = 1#1) (hh hs) : hM.slice (Rect.unit (s := S32768x9) (k0_off15 k) S2048x9.size hh) hs = hCh (Ring.bk 16 (k.val + 4)) := hCh_congr (off15_eq k h2) _ _
-- the last four copies out, waited after the loop
@[sl_canon] theorem oSmL0 (hh) : (cc0_scratch6.slice (Rect.unit (s := S4) (k0_off16 12#32) S1.size hh)).squeeze S_ squeezes_S1_S_ = oSm 0 := oSm_congr (by decide) _
@[sl_canon] theorem oSlL0 (hh hs) : (oB.slice (Rect.unit (s := S4x2048x144) (k0_off17 12#32) S1x2048x144.size hh) hs).squeeze S2048x144 squeezes_S1x2048x144_S2048x144 = oSl 0 := oSl_congr (by decide) _ _
@[sl_canon] theorem oChL0 (hh hs) : oM.slice (Rect.unit (s := S32768x144) ![24576, 0] S2048x144.size hh) hs = oCh 12 := oCh_congr (by decide) _ _
@[sl_canon] theorem oSmL1 (hh) : (cc0_scratch6.slice (Rect.unit (s := S4) (k0_off16 13#32) S1.size hh)).squeeze S_ squeezes_S1_S_ = oSm 1 := oSm_congr (by decide) _
@[sl_canon] theorem oSlL1 (hh hs) : (oB.slice (Rect.unit (s := S4x2048x144) (k0_off17 13#32) S1x2048x144.size hh) hs).squeeze S2048x144 squeezes_S1x2048x144_S2048x144 = oSl 1 := oSl_congr (by decide) _ _
@[sl_canon] theorem oChL1 (hh hs) : oM.slice (Rect.unit (s := S32768x144) ![26624, 0] S2048x144.size hh) hs = oCh 13 := oCh_congr (by decide) _ _
@[sl_canon] theorem oSmL2 (hh) : (cc0_scratch6.slice (Rect.unit (s := S4) (k0_off16 14#32) S1.size hh)).squeeze S_ squeezes_S1_S_ = oSm 2 := oSm_congr (by decide) _
@[sl_canon] theorem oSlL2 (hh hs) : (oB.slice (Rect.unit (s := S4x2048x144) (k0_off17 14#32) S1x2048x144.size hh) hs).squeeze S2048x144 squeezes_S1x2048x144_S2048x144 = oSl 2 := oSl_congr (by decide) _ _
@[sl_canon] theorem oChL2 (hh hs) : oM.slice (Rect.unit (s := S32768x144) ![28672, 0] S2048x144.size hh) hs = oCh 14 := oCh_congr (by decide) _ _
@[sl_canon] theorem oSmL3 (hh) : (cc0_scratch6.slice (Rect.unit (s := S4) (k0_off16 15#32) S1.size hh)).squeeze S_ squeezes_S1_S_ = oSm 3 := oSm_congr (by decide) _
@[sl_canon] theorem oSlL3 (hh hs) : (oB.slice (Rect.unit (s := S4x2048x144) (k0_off17 15#32) S1x2048x144.size hh) hs).squeeze S2048x144 squeezes_S1x2048x144_S2048x144 = oSl 3 := oSl_congr (by decide) _ _
@[sl_canon] theorem oChL3 (hh hs) : oM.slice (Rect.unit (s := S32768x144) ![30720, 0] S2048x144.size hh) hs = oCh 15 := oCh_congr (by decide) _ _

end Canon

end Cert.Kernel.Ringed

end
-- ==== Proof.KernelVal.lean ====
/-
  What the body computes in one trip, element by element: the words of a chunk, the row of products it is spread
  into, and the chunk of the result it gives.
-/
module

public import proofs.«01_k».proof.Proof.KernelRing
public import Idealize.ShloMosaic.Lib.PointwiseCore
public import Idealize.ShloMosaic.Lib.WritesUnit
public import Idealize.ShloMosaic.Lib.ValueLayout
public import Idealize.ShloMosaic.Lib.ViewIndex

@[expose] public section

set_option maxRecDepth 16384

noncomputable section

namespace Cert.Kernel.Ringed

open Cert.Kernel Cert.Kernel.Gen
open Idealize.ShloMosaic
open Idealize.ShloMosaic.TcCoe Idealize.ShloMosaic.Tactic

variable {F : FTy → Type} [FloatOps F]

/-- The bf16 zero the pad columns hold. -/
def z16 : F .bf16 := Scalar.ofBits .bf16 0x0000#16

/-- Rows `2048 b` to `2048 b + 2047` of `x`, as a block with a leading unit axis. -/
def xBlk (X : Vec F S32768x144 .f32) (b : Fin 16) : Vec F S1x2048x144 .f32 := fun j =>
  X (ix2 (⟨2048 * b.val + (j 1).val, by have := b.isLt; have : (j 1).val < 2048 := (j 1).isLt; omega⟩ : Fin 32768) (⟨(j 2).val, (j 2).isLt⟩ : Fin 144))
/-- Rows `2048 b` to `2048 b + 2047` of `sh`. -/
def hBlk (H : Vec F S32768x9 .f32) (b : Fin 16) : Vec F S1x2048x9 .f32 := fun j =>
  H (ix2 (⟨2048 * b.val + (j 1).val, by have := b.isLt; have : (j 1).val < 2048 := (j 1).isLt; omega⟩ : Fin 32768) (⟨(j 2).val, (j 2).isLt⟩ : Fin 9))

/-- One product: row `r`, feature `j`, spherical index `m`. -/
def tE (xb : Vec F S1x2048x144 .f32) (hb : Vec F S1x2048x9 .f32) (r : Fin 2048) (m : Fin 9) (j : Fin 144) : F .bf16 :=
  FloatOps.mulf (FloatOps.truncf FTy.bf16 bitsLt_bf16_f32 (xb (ix3 0 r j))) (FloatOps.truncf FTy.bf16 bitsLt_bf16_f32 (hb (ix3 0 r m)))

/-- The spread block: column `256 m + j` is the product at `m`, `j` for `j < 144`, and zero past it. -/
def tRow (xb : Vec F S1x2048x144 .f32) (hb : Vec F S1x2048x9 .f32) : Vec F S2048x2304 .bf16 := fun y =>
  if h : (y 1).val % 256 < 144 then
    tE xb hb ⟨(y 0).val, (y 0).isLt⟩ ⟨(y 1).val / 256, by have : (y 1).val < 2304 := (y 1).isLt; omega⟩ ⟨(y 1).val % 256, h⟩
  else z16

/-- Row `r` of the spread block of chunk `b` times column `l` of the weights. -/
def outB (X : Vec F S32768x144 .f32) (H : Vec F S32768x9 .f32) (K : Vec F S2304x144 .bf16) (b : Fin 16) (r : Fin 2048) (l : Fin 144) : F .f32 :=
  k0_pay14 (tRow (xBlk X b) (hBlk H b)) K (ix3 0 r l)

/-- The result: row `2048 b + r` is row `r` of chunk `b`'s. -/
def outV (X : Vec F S32768x144 .f32) (H : Vec F S32768x9 .f32) (K : Vec F S2304x144 .bf16) : Vec F S32768x144 .f32 := fun y =>
  outB X H K ⟨(y 0).val / 2048, by have : (y 0).val < 32768 := (y 0).isLt; omega⟩ ⟨(y 0).val % 2048, Nat.mod_lt _ (by decide)⟩ ⟨(y 1).val, (y 1).isLt⟩

section Pays
variable (xb : Vec F S1x2048x144 .f32) (hb : Vec F S1x2048x9 .f32) (r : Fin 2048) (j : Fin 144)
theorem pay3_at : k0_pay3 xb hb (ix2 r j) = tE xb hb r 0 j := by unfold tE; pointwise [k0_pay3, k0_pay1, k0_pay2]
theorem pay4_at : k0_pay4 xb hb (ix2 r j) = tE xb hb r 1 j := by unfold tE; pointwise [k0_pay4, k0_pay1, k0_pay2]
theorem pay5_at : k0_pay5 (k0_pay1 xb) (k0_pay2 hb) (ix2 r j) = tE xb hb r 2 j := by unfold tE; pointwise [k0_pay5, k0_pay1, k0_pay2]
theorem pay6_at : k0_pay6 (k0_pay1 xb) (k0_pay2 hb) (ix2 r j) = tE xb hb r 3 j := by unfold tE; pointwise [k0_pay6, k0_pay1, k0_pay2]
theorem pay7_at : k0_pay7 (k0_pay1 xb) (k0_pay2 hb) (ix2 r j) = tE xb hb r 4 j := by unfold tE; pointwise [k0_pay7, k0_pay1, k0_pay2]
theorem pay8_at : k0_pay8 (k0_pay1 xb) (k0_pay2 hb) (ix2 r j) = tE xb hb r 5 j := by unfold tE; pointwise [k0_pay8, k0_pay1, k0_pay2]
theorem pay9_at : k0_pay9 (k0_pay1 xb) (k0_pay2 hb) (ix2 r j) = tE xb hb r 6 j := by unfold tE; pointwise [k0_pay9, k0_pay1, k0_pay2]
theorem pay10_at : k0_pay10 (k0_pay1 xb) (k0_pay2 hb) (ix2 r j) = tE xb hb r 7 j := by unfold tE; pointwise [k0_pay10, k0_pay1, k0_pay2]
theorem pay13_at : k0_pay13 (k0_pay11 (k0_pay1 xb) (k0_pay2 hb)) (ix2 r j) = tE xb hb r 8 j := by unfold tE; pointwise [k0_pay13, k0_pay11, k0_pay1, k0_pay2]
theorem pay12_at (i : S2048x2304.Idx) : k0_pay12 (F := F) i = z16 := by
  obtain ⟨a, b, rfl⟩ : ∃ (a : Fin 2048) (b : Fin 2304), i = ix2 a b := ⟨i 0, i 1, eq_ix2 i⟩
  unfold z16; pointwise [k0_pay12]
end Pays

/-! ## The spread buffer -/

section Spread
variable {sg : RefSig} {κ : Kind} {sp : Space} (v : View sg κ sp S2048x2304 .bf16)

/-- The pad columns of the spread buffer hold zero. -/
def PadZero (g : v.ty.Contents (Elt F)) : Prop := ∀ y : S2048x2304.Idx, ¬ (y 1).val % 256 < 144 → v.read (Elt F) g y = z16

theorem pc_inb {o : ℕ} (h : o + 144 ≤ 2304) : ∀ a : Fin 2, (![0, o] : Fin 2 → ℕ) a + S2048x144.size a ≤ S2048x2304.size a := by
  intro a; fin_cases a
  · show 0 + 2048 ≤ 2048; omega
  · exact h

/-- One store of a trip: 144 columns from column `o` on. -/
abbrev pc (o : ℕ) (h : o + 144 ≤ 2304) (w : S2048x144.Idx → F .bf16) : View.Piece (Elt F) S2048x2304 .bf16 :=
  ⟨Rect.unit (s := S2048x2304) ![0, o] S2048x144.size (pc_inb h), w⟩

/-- The nine stores of a trip over the chunk's blocks, newest first. -/
abbrev nine (xb : Vec F S1x2048x144 .f32) (hb : Vec F S1x2048x9 .f32) : List (View.Piece (Elt F) S2048x2304 .bf16) :=
  [pc 2048 (by decide) (k0_pay13 (k0_pay11 (k0_pay1 xb) (k0_pay2 hb))), pc 1792 (by decide) (k0_pay10 (k0_pay1 xb) (k0_pay2 hb)),
   pc 1536 (by decide) (k0_pay9 (k0_pay1 xb) (k0_pay2 hb)), pc 1280 (by decide) (k0_pay8 (k0_pay1 xb) (k0_pay2 hb)),
   pc 1024 (by decide) (k0_pay7 (k0_pay1 xb) (k0_pay2 hb)), pc 768 (by decide) (k0_pay6 (k0_pay1 xb) (k0_pay2 hb)),
   pc 512 (by decide) (k0_pay5 (k0_pay1 xb) (k0_pay2 hb)), pc 256 (by decide) (k0_pay4 xb hb), pc 0 (by decide) (k0_pay3 xb hb)]

/-- A column that a store of 144 columns at `o` does not reach keeps what it held. -/
theorem skip_at (g : v.ty.Contents (Elt F)) (o : ℕ) (i) (w) (L) (r : Fin 2048) (c : Fin 2304) (h : c.val < o ∨ o + 144 ≤ c.val) :
    v.read (Elt F) (v.writes (Elt F) g (pc o i w :: L)) (ix2 r c) = v.read (Elt F) (v.writes (Elt F) g L) (ix2 r c) :=
  View.read_writes_cons_unit_of_not_mem v g (pc_inb i) w L (ix2 r c) rfl 1 h

/-- A column it reaches reads the store's payload. -/
theorem hit_at (g : v.ty.Contents (Elt F)) (o : ℕ) (i) (w) (L) (r : Fin 2048) (c : Fin 2304) (j : Fin 144) (h : c.val = o + j.val) :
    v.read (Elt F) (v.writes (Elt F) g (pc o i w :: L)) (ix2 r c) = w (ix2 r j) :=
  View.read_writes_cons_unit_of_mem v g (pc_inb i) w L (ix2 r c) (ix2 r j) rfl (fun a => by
    fin_cases a
    · show r.val = 0 + r.val; omega
    · exact h)

theorem read_nine (g : v.ty.Contents (Elt F)) (hg : PadZero v g) (xb : Vec F S1x2048x144 .f32) (hb : Vec F S1x2048x9 .f32) :
    v.read (Elt F) (v.writes (Elt F) g (nine xb hb)) = tRow xb hb := by
  funext y
  obtain ⟨r, c, rfl⟩ : ∃ (r : Fin 2048) (c : Fin 2304), y = ix2 r c := ⟨y 0, y 1, eq_ix2 y⟩
  have hc := c.isLt
  unfold tRow
  split_ifs with h
  · change c.val % 256 < 144 at h
    change _ = tE xb hb r ⟨c.val / 256, _⟩ ⟨c.val % 256, h⟩
    obtain ⟨m, hm⟩ : ∃ m : Fin 9, m.val = c.val / 256 := ⟨⟨c.val / 256, by omega⟩, rfl⟩
    have hj : (⟨c.val / 256, by omega⟩ : Fin 9) = m := Fin.ext hm.symm
    rw [hj]
    unfold nine
    fin_cases m <;> simp only at hm
    · iterate 8 rw [skip_at v g _ _ _ _ r c (by omega)]
      rw [hit_at v g _ _ _ _ r c ⟨c.val % 256, h⟩ (by show c.val = 0 + c.val % 256; omega)]; exact pay3_at xb hb r _
    · iterate 7 rw [skip_at v g _ _ _ _ r c (by omega)]
      rw [hit_at v g _ _ _ _ r c ⟨c.val % 256, h⟩ (by show c.val = 256 + c.val % 256; omega)]; exact pay4_at xb hb r _
    · iterate 6 rw [skip_at v g _ _ _ _ r c (by omega)]
      rw [hit_at v g _ _ _ _ r c ⟨c.val % 256, h⟩ (by show c.val = 512 + c.val % 256; omega)]; exact pay5_at xb hb r _
    · iterate 5 rw [skip_at v g _ _ _ _ r c (by omega)]
      rw [hit_at v g _ _ _ _ r c ⟨c.val % 256, h⟩ (by show c.val = 768 + c.val % 256; omega)]; exact pay6_at xb hb r _
    · iterate 4 rw [skip_at v g _ _ _ _ r c (by omega)]
      rw [hit_at v g _ _ _ _ r c ⟨c.val % 256, h⟩ (by show c.val = 1024 + c.val % 256; omega)]; exact pay7_at xb hb r _
    · iterate 3 rw [skip_at v g _ _ _ _ r c (by omega)]
      rw [hit_at v g _ _ _ _ r c ⟨c.val % 256, h⟩ (by show c.val = 1280 + c.val % 256; omega)]; exact pay8_at xb hb r _
    · iterate 2 rw [skip_at v g _ _ _ _ r c (by omega)]
      rw [hit_at v g _ _ _ _ r c ⟨c.val % 256, h⟩ (by show c.val = 1536 + c.val % 256; omega)]; exact pay9_at xb hb r _
    · rw [skip_at v g _ _ _ _ r c (by omega)]
      rw [hit_at v g _ _ _ _ r c ⟨c.val % 256, h⟩ (by show c.val = 1792 + c.val % 256; omega)]; exact pay10_at xb hb r _
    · rw [hit_at v g _ _ _ _ r c ⟨c.val % 256, h⟩ (by show c.val = 2048 + c.val % 256; omega)]; exact pay13_at xb hb r _
  · change ¬ c.val % 256 < 144 at h
    unfold nine
    iterate 9 rw [skip_at v g _ _ _ _ r c (by omega)]
    exact hg (ix2 r c) h

/-- The spread block's pad columns are zero. -/
theorem padZero_of_read (g : v.ty.Contents (Elt F)) (xb : Vec F S1x2048x144 .f32) (hb : Vec F S1x2048x9 .f32) (h : v.read (Elt F) g = tRow xb hb) :
    PadZero v g := fun y hy => by rw [h]; exact dif_neg hy

end Spread

/-! ## Slots and chunks -/

/-- A load of slot `s` of `x`'s buffer is the slot's words under a leading unit axis. -/
theorem load_xSl (g : cc0_scratch0.ty.Contents (Elt F)) {off : Fin 3 → ℕ} {s : Fin 4} (e : off = slotOff s) (inb) (w : S2048x144.Idx → Elt F .f32)
    (hw : (xSl s).view.read (Elt F) g = w) :
    xB.view.readAt (Elt F) (Rect.unit (s := S4x2048x144) off S1x2048x144.size inb).toLoadRect g = fun j => w (ix2 (j 1) (j 2)) := by
  subst e; subst hw
  funext j
  obtain ⟨a, r, l, rfl⟩ : ∃ (a : Fin 1) (r : Fin 2048) (l : Fin 144), j = ix3 a r l := ⟨j 0, j 1, j 2, eq_ix3 j⟩
  obtain rfl : a = 0 := Subsingleton.elim _ _
  have hr : Shape.reshapeEquiv squeezes_S1x2048x144_S2048x144.numel_eq (ix2 r l) = ix3 0 r l :=
    ValueIdx.reshapeEquiv_ix2_1ab squeezes_S1x2048x144_S2048x144.numel_eq r l
  show _ = (xSl s).view.read (Elt F) g (ix2 r l)
  show _ = (xB.slice (Rect.unit (s := S4x2048x144) (slotOff s) S1x2048x144.size (slotOff_inb s)) (fun _ => rfl)).view.read (Elt F) g
    (Shape.reshapeEquiv squeezes_S1x2048x144_S2048x144.numel_eq (ix2 r l))
  rw [hr]
  rfl

/-- A load of slot `s` of `sh`'s buffer likewise. -/
theorem load_hSl (g : cc0_scratch1.ty.Contents (Elt F)) {off : Fin 3 → ℕ} {s : Fin 4} (e : off = slotOff s) (inb) (w : S2048x9.Idx → Elt F .f32)
    (hw : (hSl s).view.read (Elt F) g = w) :
    hB.view.readAt (Elt F) (Rect.unit (s := S4x2048x9) off S1x2048x9.size inb).toLoadRect g = fun j => w (ix2 (j 1) (j 2)) := by
  subst e; subst hw
  funext j
  obtain ⟨a, r, l, rfl⟩ : ∃ (a : Fin 1) (r : Fin 2048) (l : Fin 9), j = ix3 a r l := ⟨j 0, j 1, j 2, eq_ix3 j⟩
  obtain rfl : a = 0 := Subsingleton.elim _ _
  have hr : Shape.reshapeEquiv squeezes_S1x2048x9_S2048x9.numel_eq (ix2 r l) = ix3 0 r l :=
    ValueIdx.reshapeEquiv_ix2_1ab squeezes_S1x2048x9_S2048x9.numel_eq r l
  show _ = (hB.slice (Rect.unit (s := S4x2048x9) (slotOff s) S1x2048x9.size (slotOff_inb9 s)) (fun _ => rfl)).view.read (Elt F) g
    (Shape.reshapeEquiv squeezes_S1x2048x9_S2048x9.numel_eq (ix2 r l))
  rw [hr]
  rfl

/-- A slot of the result's buffer, after the store of a block into it, reads the block. -/
theorem read_oSl (f : cc0_scratch2.ty.Contents (Elt F)) {off : Fin 3 → ℕ} {s : Fin 4} (e : off = slotOff s) (inb) (w : S1x2048x144.Idx → Elt F .f32) :
    (oSl s).view.read (Elt F) ((oB.access (Rect.unit (s := S4x2048x144) off S1x2048x144.size inb)).write (Elt F) f w Finset.univ)
      = fun y => w (ix3 0 (⟨(y 0).val, (y 0).isLt⟩ : Fin 2048) (⟨(y 1).val, (y 1).isLt⟩ : Fin 144)) := by
  subst e
  funext y
  obtain ⟨r, l, rfl⟩ : ∃ (r : Fin 2048) (l : Fin 144), y = ix2 r l := ⟨y 0, y 1, eq_ix2 y⟩
  have hr : Shape.reshapeEquiv squeezes_S1x2048x144_S2048x144.numel_eq (ix2 r l) = ix3 0 r l :=
    ValueIdx.reshapeEquiv_ix2_1ab squeezes_S1x2048x144_S2048x144.numel_eq r l
  show (oB.slice (Rect.unit (s := S4x2048x144) (slotOff s) S1x2048x144.size (slotOff_inb s)) (fun _ => rfl)).view.read (Elt F) _
    (Shape.reshapeEquiv squeezes_S1x2048x144_S2048x144.numel_eq (ix2 r l)) = _
  rw [hr]
  exact congrFun (View.read_write_univ (v := oB.access (Rect.unit (s := S4x2048x144) (slotOff s) S1x2048x144.size inb)) f w) (ix3 0 r l)

/-- Chunk `b` of `x`, read as a block, is its rows. -/
theorem read_xCh (X : Vec F S32768x144 .f32) (b : Fin 16) :
    (fun j : S1x2048x144.Idx => (ReadAs.same.apply ((xCh b).view.read (Elt F) X) : S2048x144.Idx → Elt F .f32) (ix2 (j 1) (j 2))) = xBlk X b := by
  funext j
  show X ((xCh b).view.emb (ix2 (j 1) (j 2))) = _
  exact congrArg X (funext fun a => Fin.ext (by
    fin_cases a
    · show 2048 * b.val + 1 * (j 1).val = 2048 * b.val + (j 1).val; omega
    · show 0 + 1 * (j 2).val = (j 2).val; omega))

theorem read_hCh (H : Vec F S32768x9 .f32) (b : Fin 16) :
    (fun j : S1x2048x9.Idx => (ReadAs.same.apply ((hCh b).view.read (Elt F) H) : S2048x9.Idx → Elt F .f32) (ix2 (j 1) (j 2))) = hBlk H b := by
  funext j
  show H ((hCh b).view.emb (ix2 (j 1) (j 2))) = _
  exact congrArg H (funext fun a => Fin.ext (by
    fin_cases a
    · show 2048 * b.val + 1 * (j 1).val = 2048 * b.val + (j 1).val; omega
    · show 0 + 1 * (j 2).val = (j 2).val; omega))

theorem read_oCh (b : Fin 16) (g : (oCh b).view.ty.Contents (Elt F)) (y : S2048x144.Idx) : (oCh b).view.read (Elt F) g y = g ((oCh b).view.emb y) := rfl

/-- Chunk `b` of the result, filled with the product of chunk `b`'s spread block, agrees there with the whole result. -/
theorem chunk_out (X : Vec F S32768x144 .f32) (H : Vec F S32768x9 .f32) (K : Vec F S2304x144 .bf16) (b : Fin 16) (O : Vec F S32768x144 .f32)
    (w : S2048x144.Idx → Elt F .f32) (hw : w = fun y => outB X H K b (⟨(y 0).val, (y 0).isLt⟩ : Fin 2048) (⟨(y 1).val, (y 1).isLt⟩ : Fin 144)) :
    ∀ i ∈ (oCh b).view.set, (oCh b).view.writes (Elt F) O [⟨Rect.whole S2048x144, w⟩] i = outV X H K i := by
  have hr : (oCh b).view.read (Elt F) (outV X H K) = w := by
    funext y
    obtain ⟨r, l, rfl⟩ : ∃ (r : Fin 2048) (l : Fin 144), y = ix2 r l := ⟨y 0, y 1, eq_ix2 y⟩
    have he : (oCh b).view.emb (ix2 r l) = ix2 (⟨2048 * b.val + r.val, by have := b.isLt; have := r.isLt; omega⟩ : Fin 32768) l := funext fun a => Fin.ext (by
      fin_cases a
      · show 2048 * b.val + 1 * r.val = 2048 * b.val + r.val; omega
      · show 0 + 1 * l.val = l.val; omega)
    subst hw
    refine (read_oCh b (outV X H K) (ix2 r l)).trans ((congrArg (outV X H K) he).trans ?_)
    show outB X H K (⟨(2048 * b.val + r.val) / 2048, _⟩ : Fin 16) (⟨(2048 * b.val + r.val) % 2048, _⟩ : Fin 2048) l = outB X H K b r l
    congr 1
    · exact Fin.ext (by have := r.isLt; show (2048 * b.val + r.val) / 2048 = b.val; omega)
    · exact Fin.ext (by have := r.isLt; show (2048 * b.val + r.val) % 2048 = r.val; omega)
  have hq : (oCh b).view.read (Elt F) ((oCh b).view.writes (Elt F) O [⟨Rect.whole S2048x144, w⟩]) = (oCh b).view.read (Elt F) (outV X H K) :=
    (View.read_writes_whole (oCh b).view O w).trans hr.symm
  intro i hi
  obtain ⟨y, _, rfl⟩ := Finset.mem_map.1 hi
  exact View.eq_of_read_eq (congrFun hq y)

end Cert.Kernel.Ringed

end
-- ==== Proof.KernelTrip.lean ====
/-
  One trip of the body's loop, at a symbolic trip `k`.
-/
module

public import proofs.«01_k».proof.Proof.KernelVal
public import Idealize.ShloMosaic.Lib.VecWindow

@[expose] public section

set_option maxRecDepth 16384

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Pieces -/

/-- The resource algebra: the pipeline library's beside the counters the body's own transfers ride on. -/
abbrev UD (nD : Nat) (τ : Topo) : Type := UR sig nD τ × Counters
local notation "𝕄" => MT nD τ sig Unit (Elt F) ℕ (UD nD τ) ℕ
abbrev 𝒱₀ : Variants := Variants.none

section Pieces
variable (c : Dev nD) (X : Buf (Elt F) (xM.view.loc (c : Thread nD τ))) (H : Buf (Elt F) (hM.view.loc (c : Thread nD τ)))

abbrev xCell (s : Fin 4) : sProp 𝕄 := semVal ((c : Thread nD τ), SemLoc.dma (xSm s).sem) 0
abbrev hCell (s : Fin 4) : sProp 𝕄 := semVal ((c : Thread nD τ), SemLoc.dma (hSm s).sem) 0
abbrev oCell (s : Fin 4) : sProp 𝕄 := semVal ((c : Thread nD τ), SemLoc.dma (oSm s).sem) 0
/-- A slot held, at contents `f`. -/
abbrev xSlot (s : Fin 4) (f : Buf (Elt F) ((xSl s).view.loc (c : Thread nD τ))) : sProp 𝕄 := (xSl s).view.loc (c : Thread nD τ) ↦[(xSl s).view.set]{fullShare} f
abbrev hSlot (s : Fin 4) (f : Buf (Elt F) ((hSl s).view.loc (c : Thread nD τ))) : sProp 𝕄 := (hSl s).view.loc (c : Thread nD τ) ↦[(hSl s).view.set]{fullShare} f
abbrev oSlot (s : Fin 4) (f : Buf (Elt F) ((oSl s).view.loc (c : Thread nD τ))) : sProp 𝕄 := (oSl s).view.loc (c : Thread nD τ) ↦[(oSl s).view.set]{fullShare} f
/-- A chunk of an array held, at the array's contents. -/
abbrev xHome (b : Fin 16) : sProp 𝕄 := (xCh b).view.loc (c : Thread nD τ) ↦[(xCh b).view.set]{fullShare} X
abbrev hHome (b : Fin 16) : sProp 𝕄 := (hCh b).view.loc (c : Thread nD τ) ↦[(hCh b).view.set]{fullShare} H
abbrev oHome (b : Fin 16) (f : Buf (Elt F) ((oCh b).view.loc (c : Thread nD τ))) : sProp 𝕄 := (oCh b).view.loc (c : Thread nD τ) ↦[(oCh b).view.set]{fullShare} f

/-- The words of chunk `b`, as a copy carries them. -/
abbrev xPay (b : Fin 16) : S2048x144.Idx → Elt F .f32 := ReadAs.same.apply ((xCh b).view.read (Elt F) X)
abbrev hPay (b : Fin 16) : S2048x9.Idx → Elt F .f32 := ReadAs.same.apply ((hCh b).view.read (Elt F) H)
/-- A slot in flight with chunk `b`, the copy issued over contents `f`. -/
abbrev xFly (s : Fin 4) (b : Fin 16) (f : Buf (Elt F) ((xSl s).view.loc (c : Thread nD τ))) : sProp 𝕄 :=
  Transfers.Flight countersEmb (c : Thread nD τ) (SemLoc.dma (xSm s).sem) () 65536
    iprop(xSlot c s ((xSl s).view.writes (Elt F) f [⟨Rect.whole S2048x144, xPay c X b⟩]) ∗ xHome c X b)
abbrev hFly (s : Fin 4) (b : Fin 16) (f : Buf (Elt F) ((hSl s).view.loc (c : Thread nD τ))) : sProp 𝕄 :=
  Transfers.Flight countersEmb (c : Thread nD τ) (SemLoc.dma (hSm s).sem) () 32768
    iprop(hSlot c s ((hSl s).view.writes (Elt F) f [⟨Rect.whole S2048x9, hPay c H b⟩]) ∗ hHome c H b)
/-- A slot of the result's buffer in flight into chunk `b`, which it leaves at `O`. -/
abbrev oFly (s : Fin 4) (b : Fin 16) (f : Buf (Elt F) ((oSl s).view.loc (c : Thread nD τ))) (O : Buf (Elt F) ((oCh b).view.loc (c : Thread nD τ))) : sProp 𝕄 :=
  Transfers.Flight countersEmb (c : Thread nD τ) (SemLoc.dma (oSm s).sem) () 65536
    iprop(oHome c b O ∗ oSlot c s f)

end Pieces

section Trip
variable (c : Dev nD) (X : Buf (Elt F) (xM.view.loc (c : Thread nD τ))) (H : Buf (Elt F) (hM.view.loc (c : Thread nD τ)))
  (arg2 : Memref sig .tc .vmem S2304x144 .bf16) (harg2 : arg2.IsWhole)
  (arg7 : Memref sig .tc .vmem S2048x2304 .bf16) (harg7 : arg7.IsWhole)

abbrev tripP (k : Fin k0_t1_loop.trips) : Prog (TpuEff nD τ sig (Elt F) Λ₀ .tc) Unit :=
  k0_t1_body xM (Memref.isWhole_whole _) hM (Memref.isWhole_whole _) arg2 harg2 oM (Memref.isWhole_whole _) xB (Memref.isWhole_whole _) hB (Memref.isWhole_whole _)
    oB (Memref.isWhole_whole _) arg7 harg7 cc0_scratch4 cc0_scratch5 cc0_scratch6 k ()

/-- The contents of a slot of the result's buffer after a trip's store: the chunk's rows of the result. -/
theorem trip_val (b : Fin 16) {off : Fin 3 → ℕ} {s : Fin 4} (e : off = slotOff s) (inb)
    (fo : Buf (Elt F) ((oSl s).view.loc (c : Thread nD τ))) (gt : arg7.view.ty.Contents (Elt F)) (gk : arg2.view.ty.Contents (Elt F)) (hg : PadZero arg7.view gt)
    (v86 : Vec F S1x2048x144 .f32) (v90 : Vec F S1x2048x9 .f32) (h86 : v86 = xBlk X b) (h90 : v90 = hBlk H b)
    (j7 j2) :
    (oSl s).view.read (Elt F) ((oB.access (Rect.unit (s := S4x2048x144) off S1x2048x144.size inb)).write (Elt F) fo
        (k0_pay14 (arg7.view.readAt (Elt F) (Rect.unit (s := S2048x2304) ![0, 0] S2048x2304.size j7).toLoadRect
            (arg7.view.writes (Elt F) gt (nine v86 v90)))
          (arg2.view.readAt (Elt F) (Rect.unit (s := S2304x144) ![0, 0] S2304x144.size j2).toLoadRect gk)) Finset.univ)
      = fun y => outB X H (arg2.view.read (Elt F) gk) b (⟨(y 0).val, (y 0).isLt⟩ : Fin 2048) (⟨(y 1).val, (y 1).isLt⟩ : Fin 144) := by
  subst h86; subst h90
  rw [View.readAt_full, View.readAt_full, read_nine arg7.view gt hg]
  exact read_oSl fo e inb _

/-- The copy of a chunk into the result leaves it at the result's contents. -/
theorem oFly_out (s : Fin 4) (b : Fin 16) (f : Buf (Elt F) ((oSl s).view.loc (c : Thread nD τ))) (O' : Buf (Elt F) ((oCh b).view.loc (c : Thread nD τ)))
    (K : Vec F S2304x144 .bf16) (w : S2048x144.Idx → Elt F .f32)
    (hw : w = fun y => outB X H K b (⟨(y 0).val, (y 0).isLt⟩ : Fin 2048) (⟨(y 1).val, (y 1).isLt⟩ : Fin 144)) :
    Transfers.Flight countersEmb (c : Thread nD τ) (SemLoc.dma (oSm s).sem) () 65536
      iprop(oHome c b ((oCh b).view.writes (Elt F) O' [⟨Rect.whole S2048x144, w⟩]) ∗ oSlot c s f)
    ⊢ (oFly c s b f (outV X H K) : sProp 𝕄) :=
  Transfers.Flight_mono countersEmb (c : Thread nD τ) (sep_mono_l (BIBase.Entails.of_eq (pointsTo_congr (chunk_out X H K b O' w hw))))

theorem v86_eq (k : Fin k0_t1_loop.trips) (b : Fin 16) (f : Buf (Elt F) ((xSl (Ring.sl 4 k.val)).view.loc (c : Thread nD τ))) (inb) :
    xB.view.readAt (Elt F) (Rect.unit (s := S4x2048x144) (k0_off9 k) S1x2048x144.size inb).toLoadRect
      ((xSl (Ring.sl 4 k.val)).view.writes (Elt F) f [⟨Rect.whole S2048x144, xPay c X b⟩]) = xBlk X b :=
  (load_xSl _ (off9_eq k) inb _ (View.read_writes_whole (xSl (Ring.sl 4 k.val)).view f (xPay c X b))).trans (read_xCh X b)
theorem v90_eq (k : Fin k0_t1_loop.trips) (b : Fin 16) (f : Buf (Elt F) ((hSl (Ring.sl 4 k.val)).view.loc (c : Thread nD τ))) (inb) :
    hB.view.readAt (Elt F) (Rect.unit (s := S4x2048x9) (k0_off10 k) S1x2048x9.size inb).toLoadRect
      ((hSl (Ring.sl 4 k.val)).view.writes (Elt F) f [⟨Rect.whole S2048x9, hPay c H b⟩]) = hBlk H b :=
  (load_hSl _ (off10_eq k) inb _ (View.read_writes_whole (hSl (Ring.sl 4 k.val)).view f (hPay c H b))).trans (read_hCh H b)

/-- The spread buffer held with its pad columns at zero. -/
abbrev tPad : sProp 𝕄 := iprop(∃ gt : Buf (Elt F) (arg7.view.loc (c : Thread nD τ)), ⌜PadZero arg7.view gt⌝ ∗ (arg7.view.loc (c : Thread nD τ) ↦[arg7.view.set]{fullShare} gt))

end Trip
end Cert.Kernel.Ringed

end
-- ==== Proof.KernelTripFirst.lean ====
/-
  One trip of the body's loop, at a symbolic trip `k`.
-/
module

public import proofs.«01_k».proof.Proof.KernelTrip

@[expose] public section

set_option maxRecDepth 16384

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UD nD τ) ℕ

section Trip
variable (c : Dev nD) (X : Buf (Elt F) (xM.view.loc (c : Thread nD τ))) (H : Buf (Elt F) (hM.view.loc (c : Thread nD τ)))
  (arg2 : Memref sig .tc .vmem S2304x144 .bf16) (harg2 : arg2.IsWhole)
  (arg7 : Memref sig .tc .vmem S2048x2304 .bf16) (harg7 : arg7.IsWhole)

/-- One of the first four trips: the result's slot is free, and no copy out is waited for. -/
theorem tripFirst (k : Fin k0_t1_loop.trips) (h1 : ¬ k0_cond1 k = 1#1) (h2 : k0_cond2 k = 1#1) (fx fh fo O' gk gt W) (hg : PadZero arg7.view gt) :
    iprop(xFly c X (Ring.sl 4 k.val) (Ring.bk 16 k.val) fx ∗ hFly c H (Ring.sl 4 k.val) (Ring.bk 16 k.val) fh
      ∗ oCell c (Ring.sl 4 k.val) ∗ oSlot c (Ring.sl 4 k.val) fo
      ∗ xHome c X (Ring.bk 16 (k.val + 4)) ∗ hHome c H (Ring.bk 16 (k.val + 4)) ∗ oHome c (Ring.bk 16 k.val) O'
      ∗ (arg2.view.loc (c : Thread nD τ) ↦[arg2.view.set]{fullShare} gk)
      ∗ (arg7.view.loc (c : Thread nD τ) ↦[arg7.view.set]{fullShare} gt)
      ∗ owes (c : Thread nD τ) 0 W)
    ⊢ wp frame (wpE (defs₀ (F := F)) 𝒱₀ (c : Thread nD τ) none) Set.univ (tripP arg2 harg2 arg7 harg7 k) (fun _ =>
      (iprop((∃ f, xFly c X (Ring.sl 4 k.val) (Ring.bk 16 (k.val + 4)) f) ∗ (∃ f, hFly c H (Ring.sl 4 k.val) (Ring.bk 16 (k.val + 4)) f)
        ∗ (∃ f, oFly c (Ring.sl 4 k.val) (Ring.bk 16 k.val) f (outV X H (arg2.view.read (Elt F) gk)))
        ∗ xHome c X (Ring.bk 16 k.val) ∗ hHome c H (Ring.bk 16 k.val)
        ∗ (arg2.view.loc (c : Thread nD τ) ↦[arg2.view.set]{fullShare} gk) ∗ tPad c arg7 ∗ ∃ W, owes (c : Thread nD τ) 0 W) : sProp 𝕄)) := by
  iintro ⟨Hx, Hh, Ho, Ho_src, Hx4, Hh4, Ho4, Hk, Ht, HW⟩
  dsimp only [tripP]
  sl_unfold [k0_t1_body]
  sl_exec
  sl_exec
  sl_step
  isplitl [Hx]
  · iexists _; iexact Hx
  isplitl [Hh]
  · iexists _; iexact Hh
  isplitl [Ho]
  · iexists _
    iapply (oFly_out c X H _ _ _ _ (arg2.view.read (Elt F) gk) _ (trip_val c X H arg2 arg7 (Ring.bk 16 k.val) (off9_eq k) (k0_off9_inb k) _ gt gk hg _ _ (v86_eq c X k _ _ (k0_off9_inb k)) (v90_eq c H k _ _ (k0_off10_inb k)) (by decide) (by decide)))
    iexact Ho
  isplitl [Hx_src]
  · iexact Hx_src
  isplitl [Hh_src]
  · iexact Hh_src
  isplitl [Hk]
  · iexact Hk
  isplitl [Ht]
  · iexists _
    isplitr; swap
    · iexact Ht
    · ipureintro
      exact padZero_of_read _ _ _ _ (read_nine arg7.view gt hg _ _)
  iexists _
  iexact HW

end Trip
end Cert.Kernel.Ringed

end
-- ==== Proof.KernelTripMid.lean ====
/-
  One trip of the body's loop, at a symbolic trip `k`.
-/
module

public import proofs.«01_k».proof.Proof.KernelTrip

@[expose] public section

set_option maxRecDepth 16384

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UD nD τ) ℕ

section Trip
variable (c : Dev nD) (X : Buf (Elt F) (xM.view.loc (c : Thread nD τ))) (H : Buf (Elt F) (hM.view.loc (c : Thread nD τ)))
  (arg2 : Memref sig .tc .vmem S2304x144 .bf16) (harg2 : arg2.IsWhole)
  (arg7 : Memref sig .tc .vmem S2048x2304 .bf16) (harg7 : arg7.IsWhole)

/-- A trip in the middle of the run: it waits for the copy out of four trips before and issues the copies in of four trips ahead. -/
theorem tripMid (k : Fin k0_t1_loop.trips) (h1 : k0_cond1 k = 1#1) (h2 : k0_cond2 k = 1#1) (fx fh fo O O' gk gt W) (hg : PadZero arg7.view gt) :
    iprop(xFly c X (Ring.sl 4 k.val) (Ring.bk 16 k.val) fx ∗ hFly c H (Ring.sl 4 k.val) (Ring.bk 16 k.val) fh
      ∗ oFly c (Ring.sl 4 k.val) (Ring.bk 16 (k.val - 4)) fo O
      ∗ xHome c X (Ring.bk 16 (k.val + 4)) ∗ hHome c H (Ring.bk 16 (k.val + 4)) ∗ oHome c (Ring.bk 16 k.val) O'
      ∗ (arg2.view.loc (c : Thread nD τ) ↦[arg2.view.set]{fullShare} gk)
      ∗ (arg7.view.loc (c : Thread nD τ) ↦[arg7.view.set]{fullShare} gt)
      ∗ owes (c : Thread nD τ) 0 W)
    ⊢ wp frame (wpE (defs₀ (F := F)) 𝒱₀ (c : Thread nD τ) none) Set.univ (tripP arg2 harg2 arg7 harg7 k) (fun _ =>
      (iprop((∃ f, xFly c X (Ring.sl 4 k.val) (Ring.bk 16 (k.val + 4)) f) ∗ (∃ f, hFly c H (Ring.sl 4 k.val) (Ring.bk 16 (k.val + 4)) f)
        ∗ (∃ f, oFly c (Ring.sl 4 k.val) (Ring.bk 16 k.val) f (outV X H (arg2.view.read (Elt F) gk)))
        ∗ xHome c X (Ring.bk 16 k.val) ∗ hHome c H (Ring.bk 16 k.val) ∗ oHome c (Ring.bk 16 (k.val - 4)) O
        ∗ (arg2.view.loc (c : Thread nD τ) ↦[arg2.view.set]{fullShare} gk) ∗ tPad c arg7 ∗ ∃ W, owes (c : Thread nD τ) 0 W) : sProp 𝕄)) := by
  iintro ⟨Hx, Hh, Ho, Hx4, Hh4, Ho4, Hk, Ht, HW⟩
  dsimp only [tripP]
  sl_unfold [k0_t1_body]
  sl_exec
  sl_exec
  sl_step
  isplitl [Hx]
  · iexists _; iexact Hx
  isplitl [Hh]
  · iexists _; iexact Hh
  isplitl [Ho]
  · iexists _
    iapply (oFly_out c X H _ _ _ _ (arg2.view.read (Elt F) gk) _ (trip_val c X H arg2 arg7 (Ring.bk 16 k.val) (off9_eq k) (k0_off9_inb k) _ gt gk hg _ _ (v86_eq c X k _ _ (k0_off9_inb k)) (v90_eq c H k _ _ (k0_off10_inb k)) (by decide) (by decide)))
    iexact Ho
  isplitl [Hx_src]
  · iexact Hx_src
  isplitl [Hh_src]
  · iexact Hh_src
  isplitl [Ho_dst]
  · iexact Ho_dst
  isplitl [Hk]
  · iexact Hk
  isplitl [Ht]
  · iexists _
    isplitr; swap
    · iexact Ht
    · ipureintro
      exact padZero_of_read _ _ _ _ (read_nine arg7.view gt hg _ _)
  iexists _
  iexact HW

end Trip
end Cert.Kernel.Ringed

end
-- ==== Proof.KernelTripLast.lean ====
/-
  One trip of the body's loop, at a symbolic trip `k`.
-/
module

public import proofs.«01_k».proof.Proof.KernelTrip

@[expose] public section

set_option maxRecDepth 16384

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UD nD τ) ℕ

section Trip
variable (c : Dev nD) (X : Buf (Elt F) (xM.view.loc (c : Thread nD τ))) (H : Buf (Elt F) (hM.view.loc (c : Thread nD τ)))
  (arg2 : Memref sig .tc .vmem S2304x144 .bf16) (harg2 : arg2.IsWhole)
  (arg7 : Memref sig .tc .vmem S2048x2304 .bf16) (harg7 : arg7.IsWhole)

/-- One of the last four trips: no copy in is issued. -/
theorem tripLast (k : Fin k0_t1_loop.trips) (h1 : k0_cond1 k = 1#1) (h2 : ¬ k0_cond2 k = 1#1) (fx fh fo O O' gk gt W) (hg : PadZero arg7.view gt) :
    iprop(xFly c X (Ring.sl 4 k.val) (Ring.bk 16 k.val) fx ∗ hFly c H (Ring.sl 4 k.val) (Ring.bk 16 k.val) fh
      ∗ oFly c (Ring.sl 4 k.val) (Ring.bk 16 (k.val - 4)) fo O
      ∗ oHome c (Ring.bk 16 k.val) O'
      ∗ (arg2.view.loc (c : Thread nD τ) ↦[arg2.view.set]{fullShare} gk)
      ∗ (arg7.view.loc (c : Thread nD τ) ↦[arg7.view.set]{fullShare} gt)
      ∗ owes (c : Thread nD τ) 0 W)
    ⊢ wp frame (wpE (defs₀ (F := F)) 𝒱₀ (c : Thread nD τ) none) Set.univ (tripP arg2 harg2 arg7 harg7 k) (fun _ =>
      (iprop((xCell c (Ring.sl 4 k.val) ∗ ∃ f, xSlot c (Ring.sl 4 k.val) f) ∗ (hCell c (Ring.sl 4 k.val) ∗ ∃ f, hSlot c (Ring.sl 4 k.val) f)
        ∗ (∃ f, oFly c (Ring.sl 4 k.val) (Ring.bk 16 k.val) f (outV X H (arg2.view.read (Elt F) gk)))
        ∗ xHome c X (Ring.bk 16 k.val) ∗ hHome c H (Ring.bk 16 k.val) ∗ oHome c (Ring.bk 16 (k.val - 4)) O
        ∗ (arg2.view.loc (c : Thread nD τ) ↦[arg2.view.set]{fullShare} gk) ∗ tPad c arg7 ∗ ∃ W, owes (c : Thread nD τ) 0 W) : sProp 𝕄)) := by
  iintro ⟨Hx, Hh, Ho, Ho4, Hk, Ht, HW⟩
  dsimp only [tripP]
  sl_unfold [k0_t1_body]
  sl_exec
  sl_exec
  sl_step
  isplitl [Hx Hx_dst]
  · isplitl [Hx]
    · iexact Hx
    · iexists _; iexact Hx_dst
  isplitl [Hh Hh_dst]
  · isplitl [Hh]
    · iexact Hh
    · iexists _; iexact Hh_dst
  isplitl [Ho]
  · iexists _
    iapply (oFly_out c X H _ _ _ _ (arg2.view.read (Elt F) gk) _ (trip_val c X H arg2 arg7 (Ring.bk 16 k.val) (off9_eq k) (k0_off9_inb k) _ gt gk hg _ _ (v86_eq c X k _ _ (k0_off9_inb k)) (v90_eq c H k _ _ (k0_off10_inb k)) (by decide) (by decide)))
    iexact Ho
  isplitl [Hx_src]
  · iexact Hx_src
  isplitl [Hh_src]
  · iexact Hh_src
  isplitl [Ho_dst]
  · iexact Ho_dst
  isplitl [Hk]
  · iexact Hk
  isplitl [Ht]
  · iexists _
    isplitr; swap
    · iexact Ht
    · ipureintro
      exact padZero_of_read _ _ _ _ (read_nine arg7.view gt hg _ _)
  iexists _
  iexact HW

end Trip
end Cert.Kernel.Ringed

end
-- ==== Proof.KernelInv.lean ====
/-
  The loop's invariant and the run of the whole body.
-/
module

public import proofs.«01_k».proof.Proof.KernelTripFirst
public import proofs.«01_k».proof.Proof.KernelTripMid
public import proofs.«01_k».proof.Proof.KernelTripLast
public import Idealize.ShloMosaic.Lib.Ring.WriteBehind

@[expose] public section

set_option maxRecDepth 16384

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UD nD τ) ℕ

section Inv
variable (c : Dev nD) (X : Buf (Elt F) (xM.view.loc (c : Thread nD τ))) (H : Buf (Elt F) (hM.view.loc (c : Thread nD τ)))
  (arg2 : Memref sig .tc .vmem S2304x144 .bf16) (harg2 : arg2.IsWhole)
  (arg7 : Memref sig .tc .vmem S2048x2304 .bf16) (harg7 : arg7.IsWhole)
  (gk : Buf (Elt F) (arg2.view.loc (c : Thread nD τ))) (O0 : Buf (Elt F) (oM.view.loc (c : Thread nD τ)))

/-- What the slot of step `j` of `x`'s ring holds before step `j`: chunk `j` on its way while there is one, else nothing. -/
def xRole (j : ℕ) : sProp 𝕄 :=
  Ring.roleAt (NB := 16) iprop(xCell c (Ring.sl 4 j) ∗ ∃ f, xSlot c (Ring.sl 4 j) f) (fun b => iprop(∃ f, xFly c X (Ring.sl 4 j) b f)) j
def hRole (j : ℕ) : sProp 𝕄 :=
  Ring.roleAt (NB := 16) iprop(hCell c (Ring.sl 4 j) ∗ ∃ f, hSlot c (Ring.sl 4 j) f) (fun b => iprop(∃ f, hFly c H (Ring.sl 4 j) b f)) j
/-- What the slot of step `j` of the result's ring holds before step `j`: chunk `j - 4` on its way out, or nothing at first. -/
def oRole (j : ℕ) : sProp 𝕄 :=
  Ring.roleBAt (NB := 16) 4 iprop(oCell c (Ring.sl 4 j) ∗ ∃ f, oSlot c (Ring.sl 4 j) f)
    (fun b => iprop(∃ f, oFly c (Ring.sl 4 j) b f (outV X H (arg2.view.read (Elt F) gk)))) j

theorem xRole_in (k : ℕ) (h : k < 16) : xRole c X k = iprop(∃ f, xFly c X (Ring.sl 4 k) (Ring.bk 16 k) f) := Ring.roleAt_of_lt _ _ k h
theorem hRole_in (k : ℕ) (h : k < 16) : hRole c H k = iprop(∃ f, hFly c H (Ring.sl 4 k) (Ring.bk 16 k) f) := Ring.roleAt_of_lt _ _ k h
theorem xRole_next (k : ℕ) (h : k + 4 < 16) : xRole c X (k + 4) = iprop(∃ f, xFly c X (Ring.sl 4 k) (Ring.bk 16 (k + 4)) f) := by
  rw [xRole_in c X (k + 4) h, Ring.sl_add 4 k]
theorem hRole_next (k : ℕ) (h : k + 4 < 16) : hRole c H (k + 4) = iprop(∃ f, hFly c H (Ring.sl 4 k) (Ring.bk 16 (k + 4)) f) := by
  rw [hRole_in c H (k + 4) h, Ring.sl_add 4 k]
theorem xRole_done (k : ℕ) (h : 16 ≤ k + 4) : xRole c X (k + 4) = iprop(xCell c (Ring.sl 4 k) ∗ ∃ f, xSlot c (Ring.sl 4 k) f) := by
  unfold xRole; rw [Ring.roleAt_of_le _ _ (k + 4) h, Ring.sl_add 4 k]
theorem hRole_done (k : ℕ) (h : 16 ≤ k + 4) : hRole c H (k + 4) = iprop(hCell c (Ring.sl 4 k) ∗ ∃ f, hSlot c (Ring.sl 4 k) f) := by
  unfold hRole; rw [Ring.roleAt_of_le _ _ (k + 4) h, Ring.sl_add 4 k]
theorem oRole_first (k : ℕ) (h : k < 4) : oRole c X H arg2 gk k = iprop(oCell c (Ring.sl 4 k) ∗ ∃ f, oSlot c (Ring.sl 4 k) f) := Ring.roleBAt_of_lt 4 _ _ k h
theorem oRole_in (k : ℕ) (h : 4 ≤ k) : oRole c X H arg2 gk k
    = iprop(∃ f, oFly c (Ring.sl 4 k) (Ring.bk 16 (k - 4)) f (outV X H (arg2.view.read (Elt F) gk))) := Ring.roleBAt_of_le 4 _ _ k h
theorem oRole_next (k : ℕ) : oRole c X H arg2 gk (k + 4)
    = iprop(∃ f, oFly c (Ring.sl 4 k) (Ring.bk 16 k) f (outV X H (arg2.view.read (Elt F) gk))) := by
  rw [oRole_in c X H arg2 gk (k + 4) (by omega), Ring.sl_add 4 k, Nat.add_sub_cancel]

/-- Before trip `k`: the three rings from step `k` on, the chunks at home, the weights, the spread buffer. -/
def inv (k : ℕ) (_ : Unit) : sProp 𝕄 :=
  iprop(xRole c X k ∗ xRole c X (k + 1) ∗ xRole c X (k + 2) ∗ xRole c X (k + 3)
    ∗ hRole c H k ∗ hRole c H (k + 1) ∗ hRole c H (k + 2) ∗ hRole c H (k + 3)
    ∗ oRole c X H arg2 gk k ∗ oRole c X H arg2 gk (k + 1) ∗ oRole c X H arg2 gk (k + 2) ∗ oRole c X H arg2 gk (k + 3)
    ∗ bigSep (Ring.homeSet (NB := 16) 4 k) (xHome c X) ∗ bigSep (Ring.homeSet (NB := 16) 4 k) (hHome c H)
    ∗ bigSep (Ring.aheadSet (NB := 16) k) (fun b => oHome c b O0)
    ∗ bigSep (Ring.behindSet (NB := 16) 4 k) (fun b => oHome c b (outV X H (arg2.view.read (Elt F) gk)))
    ∗ (arg2.view.loc (c : Thread nD τ) ↦[arg2.view.set]{fullShare} gk) ∗ tPad c arg7 ∗ ∃ W, owes (c : Thread nD τ) 0 W)

/-- A family over the chunks at home before trip `k`, while chunk `k + 4` has still to go out: that chunk beside the rest, -/
theorem home_here (Φ : Fin 16 → sProp 𝕄) (k : ℕ) (hk : k + 4 < 16) :
    bigSep (Ring.homeSet 4 k) Φ = iprop(Φ (Ring.bk 16 (k + 4)) ∗ bigSep ((Ring.homeSet 4 k).erase (Ring.bk 16 (k + 4))) Φ) := by
  conv_lhs => rw [Ring.homeSet_out 4 k hk, bigSep_insert (Ring.bkL_not_mem_erase 4 k)]
  rfl
/-- and before trip `k + 1`: chunk `k` beside that rest; -/
theorem home_next (Φ : Fin 16 → sProp 𝕄) (k : ℕ) (hk : k + 4 < 16) :
    bigSep (Ring.homeSet 4 (k + 1)) Φ = iprop(Φ (Ring.bk 16 k) ∗ bigSep ((Ring.homeSet 4 k).erase (Ring.bk 16 (k + 4))) Φ) := by
  conv_lhs => rw [Ring.homeSet_succ 4 k hk, bigSep_insert (Ring.bk_not_mem_erase 4 k (by omega) (by decide))]
  rfl
/-- in the last four trips chunk `k` comes back and none goes out. -/
theorem home_tail (Φ : Fin 16 → sProp 𝕄) (k : ℕ) (hk : 16 ≤ k + 4) (h : k < 16) :
    bigSep (Ring.homeSet 4 (k + 1)) Φ = iprop(Φ (Ring.bk 16 k) ∗ bigSep (Ring.homeSet 4 k) Φ) := by
  conv_lhs => rw [Ring.homeSet_succ_tail 4 k hk h, bigSep_insert (Ring.bk_not_mem_homeSet 4 k h (by decide))]
  rfl
theorem ahead_here (Φ : Fin 16 → sProp 𝕄) (k : ℕ) (h : k < 16) :
    bigSep (Ring.aheadSet k) Φ = iprop(Φ (Ring.bk 16 k) ∗ bigSep (Ring.aheadSet (k + 1)) Φ) := by
  conv_lhs => rw [Ring.aheadSet_open k h, bigSep_insert (Ring.bk_not_mem_aheadSet_succ k h)]
  rfl
theorem behind_next (Φ : Fin 16 → sProp 𝕄) (k : ℕ) (h4 : 4 ≤ k) (h : k < 16) :
    bigSep (Ring.behindSet 4 (k + 1)) Φ = iprop(Φ (Ring.bk 16 (k - 4)) ∗ bigSep (Ring.behindSet 4 k) Φ) := by
  conv_lhs => rw [Ring.behindSet_close 4 k h4 h, bigSep_insert (Ring.bk_not_mem_behindSet 4 k h4 h)]
  rfl

set_option maxHeartbeats 1000000 in
theorem inv_mid (k : Fin k0_t1_loop.trips) (h4 : 4 ≤ k.val) (hl : k.val + 4 < 16) :
    inv c X H arg2 arg7 gk O0 k.val () ⊢ wp frame (wpE (defs₀ (F := F)) 𝒱₀ (c : Thread nD τ) none) Set.univ (tripP arg2 harg2 arg7 harg7 k)
      (fun a => inv c X H arg2 arg7 gk O0 (k.val + 1) a) := by
  have hk : k.val < 16 := Nat.lt_of_lt_of_eq k.isLt trips_eq
  have h1 := (cond1_iff k).2 h4
  have h2 := (cond2_iff k).2 hl
  unfold inv
  rw [xRole_in c X k.val hk, hRole_in c H k.val hk, oRole_in c X H arg2 gk k.val h4, home_here (xHome c X) k.val hl, home_here (hHome c H) k.val hl,
    ahead_here _ k.val hk]
  iintro ⟨⟨%fx, X0⟩, X1, X2, X3, ⟨%fh, H0⟩, H1, H2, H3, ⟨%fo, P0⟩, P1, P2, P3, ⟨xh, XH⟩, ⟨hh, HH⟩, ⟨oh, OA⟩, OB, Hk, ⟨%gt, %hg, Ht⟩, %W, HW⟩
  iapply (wp_wand_r Idealize.ShloMosaic.frame (wpE (defs₀ (F := F)) 𝒱₀ (c : Thread nD τ) none) Set.univ)
  isplitl [X0 H0 P0 xh hh oh Hk Ht HW]
  · iapply (tripMid c X H arg2 harg2 arg7 harg7 k h1 h2 fx fh fo _ O0 gk gt W hg)
    sl_close
  iintro %_ ⟨⟨%_, X4⟩, ⟨%_, H4⟩, ⟨%_, P4⟩, xh, hh, oh, Hk, ⟨%_, %hg', Ht⟩, %_, HW⟩
  irw [xRole_next c X k.val hl, hRole_next c H k.val hl, oRole_next c X H arg2 gk k.val, home_next (xHome c X) k.val hl, home_next (hHome c H) k.val hl,
    behind_next _ k.val h4 hk]
  sl_close

set_option maxHeartbeats 1000000 in
theorem inv_last (k : Fin k0_t1_loop.trips) (h4 : 4 ≤ k.val) (hl : ¬ k.val + 4 < 16) :
    inv c X H arg2 arg7 gk O0 k.val () ⊢ wp frame (wpE (defs₀ (F := F)) 𝒱₀ (c : Thread nD τ) none) Set.univ (tripP arg2 harg2 arg7 harg7 k)
      (fun a => inv c X H arg2 arg7 gk O0 (k.val + 1) a) := by
  have hk : k.val < 16 := Nat.lt_of_lt_of_eq k.isLt trips_eq
  have h1 := (cond1_iff k).2 h4
  have h2 : ¬ k0_cond2 k = 1#1 := fun h => hl ((cond2_iff k).1 h)
  unfold inv
  rw [xRole_in c X k.val hk, hRole_in c H k.val hk, oRole_in c X H arg2 gk k.val h4, ahead_here _ k.val hk]
  iintro ⟨⟨%fx, X0⟩, X1, X2, X3, ⟨%fh, H0⟩, H1, H2, H3, ⟨%fo, P0⟩, P1, P2, P3, XH, HH, ⟨oh, OA⟩, OB, Hk, ⟨%gt, %hg, Ht⟩, %W, HW⟩
  iapply (wp_wand_r Idealize.ShloMosaic.frame (wpE (defs₀ (F := F)) 𝒱₀ (c : Thread nD τ) none) Set.univ)
  isplitl [X0 H0 P0 oh Hk Ht HW]
  · iapply (tripLast c X H arg2 harg2 arg7 harg7 k h1 h2 fx fh fo _ O0 gk gt W hg)
    sl_close
  iintro %_ ⟨⟨X4, %_, X4'⟩, ⟨H4, %_, H4'⟩, ⟨%_, P4⟩, xh, hh, oh, Hk, ⟨%_, %hg', Ht⟩, %_, HW⟩
  irw [xRole_done c X k.val (by omega), hRole_done c H k.val (by omega), oRole_next c X H arg2 gk k.val, home_tail (xHome c X) k.val (by omega) hk,
    home_tail (hHome c H) k.val (by omega) hk, behind_next _ k.val h4 hk]
  sl_close

set_option maxHeartbeats 1000000 in
theorem inv_first (k : Fin k0_t1_loop.trips) (h4 : ¬ 4 ≤ k.val) :
    inv c X H arg2 arg7 gk O0 k.val () ⊢ wp frame (wpE (defs₀ (F := F)) 𝒱₀ (c : Thread nD τ) none) Set.univ (tripP arg2 harg2 arg7 harg7 k)
      (fun a => inv c X H arg2 arg7 gk O0 (k.val + 1) a) := by
  have hk : k.val < 16 := Nat.lt_of_lt_of_eq k.isLt trips_eq
  have h1 : ¬ k0_cond1 k = 1#1 := fun h => h4 ((cond1_iff k).1 h)
  have hl : k.val + 4 < 16 := by omega
  have h2 := (cond2_iff k).2 hl
  unfold inv
  rw [xRole_in c X k.val hk, hRole_in c H k.val hk, oRole_first c X H arg2 gk k.val (by omega), home_here (xHome c X) k.val hl, home_here (hHome c H) k.val hl,
    ahead_here _ k.val hk, Ring.behindSet_boot 4 k.val (by omega)]
  iintro ⟨⟨%fx, X0⟩, X1, X2, X3, ⟨%fh, H0⟩, H1, H2, H3, ⟨C0, ⟨%fo, P0⟩⟩, P1, P2, P3, ⟨xh, XH⟩, ⟨hh, HH⟩, ⟨oh, OA⟩, OB, Hk, ⟨%gt, %hg, Ht⟩, %W, HW⟩
  iapply (wp_wand_r Idealize.ShloMosaic.frame (wpE (defs₀ (F := F)) 𝒱₀ (c : Thread nD τ) none) Set.univ)
  isplitl [X0 H0 C0 P0 xh hh oh Hk Ht HW]
  · iapply (tripFirst c X H arg2 harg2 arg7 harg7 k h1 h2 fx fh fo O0 gk gt W hg)
    sl_close
  iintro %_ ⟨⟨%_, X4⟩, ⟨%_, H4⟩, ⟨%_, P4⟩, xh, hh, Hk, ⟨%_, %hg', Ht⟩, %_, HW⟩
  irw [xRole_next c X k.val hl, hRole_next c H k.val hl, oRole_next c X H arg2 gk k.val, home_next (xHome c X) k.val hl, home_next (hHome c H) k.val hl,
    Ring.behindSet_boot 4 (k.val + 1) (by omega)]
  sl_close

/-- One trip keeps the invariant. -/
theorem inv_step (k : Fin k0_t1_loop.trips) :
    inv c X H arg2 arg7 gk O0 k.val () ⊢ wp frame (wpE (defs₀ (F := F)) 𝒱₀ (c : Thread nD τ) none) Set.univ (tripP arg2 harg2 arg7 harg7 k)
      (fun a => inv c X H arg2 arg7 gk O0 (k.val + 1) a) := by
  have hk : k.val < 16 := Nat.lt_of_lt_of_eq k.isLt trips_eq
  by_cases h4 : 4 ≤ k.val
  · by_cases hl : k.val + 4 < 16
    · exact inv_mid c X H arg2 harg2 arg7 harg7 gk O0 k h4 hl
    · exact inv_last c X H arg2 harg2 arg7 harg7 gk O0 k h4 hl
  · exact inv_first c X H arg2 harg2 arg7 harg7 gk O0 k h4

end Inv
end Cert.Kernel.Ringed

end
-- ==== Proof.KernelBody.lean ====
/-
  The run of the whole body.
-/
module

public import proofs.«01_k».proof.Proof.KernelInv

@[expose] public section

set_option maxRecDepth 16384

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UD nD τ) ℕ

section Ends
variable (c : Dev nD) (X : Buf (Elt F) (xM.view.loc (c : Thread nD τ))) (H : Buf (Elt F) (hM.view.loc (c : Thread nD τ)))
  (arg2 : Memref sig .tc .vmem S2304x144 .bf16) (gk : Buf (Elt F) (arg2.view.loc (c : Thread nD τ)))
/-! The rings before the first trip and after the last, slot by slot. -/
theorem xRole_start0 : xRole c X (0 + 0) = iprop(∃ f, xFly c X 0 0 f) := xRole_in c X 0 (by decide)
theorem hRole_start0 : hRole c H (0 + 0) = iprop(∃ f, hFly c H 0 0 f) := hRole_in c H 0 (by decide)
theorem oRole_start0 : oRole c X H arg2 gk (0 + 0) = iprop(oCell c 0 ∗ ∃ f, oSlot c 0 f) := oRole_first c X H arg2 gk 0 (by decide)
theorem xRole_end0 : xRole c X (16 + 0) = iprop(xCell c 0 ∗ ∃ f, xSlot c 0 f) := xRole_done c X 12 (by decide)
theorem hRole_end0 : hRole c H (16 + 0) = iprop(hCell c 0 ∗ ∃ f, hSlot c 0 f) := hRole_done c H 12 (by decide)
theorem oRole_end0 : oRole c X H arg2 gk (16 + 0) = iprop(∃ f, oFly c 0 12 f (outV X H (arg2.view.read (Elt F) gk))) :=
  oRole_next c X H arg2 gk 12
theorem xRole_start1 : xRole c X (0 + 1) = iprop(∃ f, xFly c X 1 1 f) := xRole_in c X 1 (by decide)
theorem hRole_start1 : hRole c H (0 + 1) = iprop(∃ f, hFly c H 1 1 f) := hRole_in c H 1 (by decide)
theorem oRole_start1 : oRole c X H arg2 gk (0 + 1) = iprop(oCell c 1 ∗ ∃ f, oSlot c 1 f) := oRole_first c X H arg2 gk 1 (by decide)
theorem xRole_end1 : xRole c X (16 + 1) = iprop(xCell c 1 ∗ ∃ f, xSlot c 1 f) := xRole_done c X 13 (by decide)
theorem hRole_end1 : hRole c H (16 + 1) = iprop(hCell c 1 ∗ ∃ f, hSlot c 1 f) := hRole_done c H 13 (by decide)
theorem oRole_end1 : oRole c X H arg2 gk (16 + 1) = iprop(∃ f, oFly c 1 13 f (outV X H (arg2.view.read (Elt F) gk))) :=
  oRole_next c X H arg2 gk 13
theorem xRole_start2 : xRole c X (0 + 2) = iprop(∃ f, xFly c X 2 2 f) := xRole_in c X 2 (by decide)
theorem hRole_start2 : hRole c H (0 + 2) = iprop(∃ f, hFly c H 2 2 f) := hRole_in c H 2 (by decide)
theorem oRole_start2 : oRole c X H arg2 gk (0 + 2) = iprop(oCell c 2 ∗ ∃ f, oSlot c 2 f) := oRole_first c X H arg2 gk 2 (by decide)
theorem xRole_end2 : xRole c X (16 + 2) = iprop(xCell c 2 ∗ ∃ f, xSlot c 2 f) := xRole_done c X 14 (by decide)
theorem hRole_end2 : hRole c H (16 + 2) = iprop(hCell c 2 ∗ ∃ f, hSlot c 2 f) := hRole_done c H 14 (by decide)
theorem oRole_end2 : oRole c X H arg2 gk (16 + 2) = iprop(∃ f, oFly c 2 14 f (outV X H (arg2.view.read (Elt F) gk))) :=
  oRole_next c X H arg2 gk 14
theorem xRole_start3 : xRole c X (0 + 3) = iprop(∃ f, xFly c X 3 3 f) := xRole_in c X 3 (by decide)
theorem hRole_start3 : hRole c H (0 + 3) = iprop(∃ f, hFly c H 3 3 f) := hRole_in c H 3 (by decide)
theorem oRole_start3 : oRole c X H arg2 gk (0 + 3) = iprop(oCell c 3 ∗ ∃ f, oSlot c 3 f) := oRole_first c X H arg2 gk 3 (by decide)
theorem xRole_end3 : xRole c X (16 + 3) = iprop(xCell c 3 ∗ ∃ f, xSlot c 3 f) := xRole_done c X 15 (by decide)
theorem hRole_end3 : hRole c H (16 + 3) = iprop(hCell c 3 ∗ ∃ f, hSlot c 3 f) := hRole_done c H 15 (by decide)
theorem oRole_end3 : oRole c X H arg2 gk (16 + 3) = iprop(∃ f, oFly c 3 15 f (outV X H (arg2.view.read (Elt F) gk))) :=
  oRole_next c X H arg2 gk 15

variable (arg7 : Memref sig .tc .vmem S2048x2304 .bf16) (O0 : Buf (Elt F) (oM.view.loc (c : Thread nD τ)))
/-- The invariant before the first trip: chunks 0 to 3 on their way in, the result's ring free, nothing of the result written. -/
theorem inv_zero : inv c X H arg2 arg7 gk O0 0 () =
    iprop((∃ f, xFly c X 0 0 f) ∗ (∃ f, xFly c X 1 1 f) ∗ (∃ f, xFly c X 2 2 f) ∗ (∃ f, xFly c X 3 3 f)
    ∗ (∃ f, hFly c H 0 0 f) ∗ (∃ f, hFly c H 1 1 f) ∗ (∃ f, hFly c H 2 2 f) ∗ (∃ f, hFly c H 3 3 f)
    ∗ (oCell c 0 ∗ ∃ f, oSlot c 0 f) ∗ (oCell c 1 ∗ ∃ f, oSlot c 1 f) ∗ (oCell c 2 ∗ ∃ f, oSlot c 2 f) ∗ (oCell c 3 ∗ ∃ f, oSlot c 3 f)
    ∗ bigSep (Ring.homeSet (NB := 16) 4 0) (xHome c X) ∗ bigSep (Ring.homeSet (NB := 16) 4 0) (hHome c H)
    ∗ bigSep Finset.univ (fun b => oHome c b O0) ∗ bigSep (∅ : Finset (Fin 16)) (fun b => oHome c b (outV X H (arg2.view.read (Elt F) gk)))
    ∗ (arg2.view.loc (c : Thread nD τ) ↦[arg2.view.set]{fullShare} gk) ∗ tPad c arg7 ∗ ∃ W, owes (c : Thread nD τ) 0 W) := by
  unfold inv
  rw [show xRole c X 0 = _ from xRole_start0 c X, xRole_start1, xRole_start2, xRole_start3, show hRole c H 0 = _ from hRole_start0 c H, hRole_start1, hRole_start2,
    hRole_start3, show oRole c X H arg2 gk 0 = _ from oRole_start0 c X H arg2 gk, oRole_start1, oRole_start2, oRole_start3,
    show Ring.aheadSet (NB := 16) 0 = Finset.univ by decide, show Ring.behindSet (NB := 16) 4 0 = ∅ by decide]
set_option maxHeartbeats 1000000 in
/-- The invariant after the last trip: both input rings free, the last four chunks of the result on their way out. -/
theorem inv_end : inv c X H arg2 arg7 gk O0 16 () =
    iprop((xCell c 0 ∗ ∃ f, xSlot c 0 f) ∗ (xCell c 1 ∗ ∃ f, xSlot c 1 f) ∗ (xCell c 2 ∗ ∃ f, xSlot c 2 f) ∗ (xCell c 3 ∗ ∃ f, xSlot c 3 f)
    ∗ (hCell c 0 ∗ ∃ f, hSlot c 0 f) ∗ (hCell c 1 ∗ ∃ f, hSlot c 1 f) ∗ (hCell c 2 ∗ ∃ f, hSlot c 2 f) ∗ (hCell c 3 ∗ ∃ f, hSlot c 3 f)
    ∗ (∃ f, oFly c 0 12 f (outV X H (arg2.view.read (Elt F) gk))) ∗ (∃ f, oFly c 1 13 f (outV X H (arg2.view.read (Elt F) gk)))
    ∗ (∃ f, oFly c 2 14 f (outV X H (arg2.view.read (Elt F) gk))) ∗ (∃ f, oFly c 3 15 f (outV X H (arg2.view.read (Elt F) gk)))
    ∗ bigSep Finset.univ (xHome c X) ∗ bigSep Finset.univ (hHome c H)
    ∗ bigSep (∅ : Finset (Fin 16)) (fun b => oHome c b O0) ∗ bigSep (Ring.behindSet (NB := 16) 4 16) (fun b => oHome c b (outV X H (arg2.view.read (Elt F) gk)))
    ∗ (arg2.view.loc (c : Thread nD τ) ↦[arg2.view.set]{fullShare} gk) ∗ tPad c arg7 ∗ ∃ W, owes (c : Thread nD τ) 0 W) := by
  unfold inv
  rw [show xRole c X 16 = _ from xRole_end0 c X, xRole_end1, xRole_end2, xRole_end3, show hRole c H 16 = _ from hRole_end0 c H, hRole_end1, hRole_end2,
    hRole_end3, show oRole c X H arg2 gk 16 = _ from oRole_end0 c X H arg2 gk, oRole_end1, oRole_end2, oRole_end3,
    show Ring.aheadSet (NB := 16) 16 = ∅ by decide, show Ring.homeSet (NB := 16) 4 16 = Finset.univ by decide]
/-- The same at the loop's own trip count. -/
theorem inv_exit (a : Unit) : inv c X H arg2 arg7 gk O0 (Scf.trips k0_t1_loop.lb k0_t1_loop.ub k0_t1_loop.st) a = inv c X H arg2 arg7 gk O0 16 () :=
  congrArg (fun n => inv c X H arg2 arg7 gk O0 n a) trips_eq
end Ends

section Body
variable (c : Dev nD) (X : Buf (Elt F) (xM.view.loc (c : Thread nD τ))) (H : Buf (Elt F) (hM.view.loc (c : Thread nD τ)))
  (arg2 : Memref sig .tc .vmem S2304x144 .bf16) (harg2 : arg2.IsWhole)
  (arg7 : Memref sig .tc .vmem S2048x2304 .bf16) (harg7 : arg7.IsWhole)
  (gk : Buf (Elt F) (arg2.view.loc (c : Thread nD τ))) (O0 : Buf (Elt F) (oM.view.loc (c : Thread nD τ)))

/-- The body, at any staging buffer of the weights and any spread buffer. -/
abbrev bodyP : Prog (TpuEff nD τ sig (Elt F) Λ₀ .tc) PUnit :=
  cc0__so3_body xM (Memref.isWhole_whole _) hM (Memref.isWhole_whole _) arg2 harg2 oM (Memref.isWhole_whole _) xB (Memref.isWhole_whole _) hB (Memref.isWhole_whole _)
    oB (Memref.isWhole_whole _) arg7 harg7 cc0_scratch4 cc0_scratch5 cc0_scratch6

/-- The three rings' slots and semaphores, all free. -/
abbrev rings : sProp 𝕄 :=
  iprop((∃ f, xSlot c 0 f) ∗ (∃ f, xSlot c 1 f) ∗ (∃ f, xSlot c 2 f) ∗ (∃ f, xSlot c 3 f)
    ∗ (∃ f, hSlot c 0 f) ∗ (∃ f, hSlot c 1 f) ∗ (∃ f, hSlot c 2 f) ∗ (∃ f, hSlot c 3 f)
    ∗ (∃ f, oSlot c 0 f) ∗ (∃ f, oSlot c 1 f) ∗ (∃ f, oSlot c 2 f) ∗ (∃ f, oSlot c 3 f)
    ∗ (xCell c 0 ∗ xCell c 1 ∗ xCell c 2 ∗ xCell c 3) ∗ (hCell c 0 ∗ hCell c 1 ∗ hCell c 2 ∗ hCell c 3) ∗ (oCell c 0 ∗ oCell c 1 ∗ oCell c 2 ∗ oCell c 3))

/-- The first four chunks beside the rest. -/
theorem four_first (Φ : Fin 16 → sProp 𝕄) : bigSep Finset.univ Φ = iprop(Φ 0 ∗ Φ 1 ∗ Φ 2 ∗ Φ 3 ∗ bigSep (Ring.homeSet 4 0) Φ) := by
  have e : (Finset.univ : Finset (Fin 16)) = insert 0 (insert 1 (insert 2 (insert 3 (Ring.homeSet 4 0)))) := by decide
  rw [e, bigSep_insert (by decide), bigSep_insert (by decide), bigSep_insert (by decide), bigSep_insert (by decide)]
  rfl
/-- The last four chunks beside the rest. -/
theorem four_last (Φ : Fin 16 → sProp 𝕄) : bigSep Finset.univ Φ = iprop(Φ 12 ∗ Φ 13 ∗ Φ 14 ∗ Φ 15 ∗ bigSep (Ring.behindSet 4 16) Φ) := by
  have e : (Finset.univ : Finset (Fin 16)) = insert 12 (insert 13 (insert 14 (insert 15 (Ring.behindSet 4 16)))) := by decide
  rw [e, bigSep_insert (by decide), bigSep_insert (by decide), bigSep_insert (by decide), bigSep_insert (by decide)]
  rfl

theorem padZero_init (g : arg7.view.ty.Contents (Elt F)) (i) :
    PadZero arg7.view (arg7.view.writes (Elt F) g [(⟨Rect.unit (s := S2048x2304) ![0, 0] S2048x2304.size i, k0_pay12⟩ : View.Piece (Elt F) S2048x2304 .bf16)]) :=
  fun y _ => (View.read_writes_cons_unit_of_mem arg7.view g i k0_pay12 [] y y rfl (fun a => by fin_cases a <;> exact (Nat.zero_add _).symm)).trans (pay12_at y)

set_option maxHeartbeats 1000000 in
/-- The whole body leaves the result's array at its contents and everything else as it was. -/
theorem bodyRun (g7 W) :
    iprop((bigSep Finset.univ (xHome c X) ∗ bigSep Finset.univ (hHome c H) ∗ bigSep Finset.univ (fun b => oHome c b O0))
      ∗ (arg2.view.loc (c : Thread nD τ) ↦[arg2.view.set]{fullShare} gk) ∗ (arg7.view.loc (c : Thread nD τ) ↦[arg7.view.set]{fullShare} g7) ∗ rings c
      ∗ owes (c : Thread nD τ) 0 W)
    ⊢ wp frame (wpE (defs₀ (F := F)) 𝒱₀ (c : Thread nD τ) none) Set.univ (bodyP arg2 harg2 arg7 harg7) (fun _ =>
      (iprop((bigSep Finset.univ (xHome c X) ∗ bigSep Finset.univ (hHome c H)
          ∗ bigSep Finset.univ (fun b => oHome c b (outV X H (arg2.view.read (Elt F) gk))))
        ∗ (arg2.view.loc (c : Thread nD τ) ↦[arg2.view.set]{fullShare} gk) ∗ (∃ g, arg7.view.loc (c : Thread nD τ) ↦[arg7.view.set]{fullShare} g) ∗ rings c
        ∗ ∃ W, owes (c : Thread nD τ) 0 W) : sProp 𝕄)) := by
  iintro ⟨⟨XA, HA, OA⟩, Hk, Ht,
    ⟨⟨%fx0, XS0⟩, ⟨%fx1, XS1⟩, ⟨%fx2, XS2⟩, ⟨%fx3, XS3⟩, ⟨%fh0, HS0⟩, ⟨%fh1, HS1⟩, ⟨%fh2, HS2⟩, ⟨%fh3, HS3⟩, OS0, OS1, OS2, OS3,
      ⟨XC0, XC1, XC2, XC3⟩, ⟨HC0, HC1, HC2, HC3⟩, ⟨OC0, OC1, OC2, OC3⟩⟩, HW⟩
  ihave XA := (Entails.of_eq (four_first (xHome c X))) $$ XA
  ihave HA := (Entails.of_eq (four_first (hHome c H))) $$ HA
  icases XA with ⟨X0, X1, X2, X3, XH⟩
  icases HA with ⟨H0, H1, H2, H3, HH⟩
  dsimp only [bodyP]
  sl_unfold [cc0__so3_body]
  sl_exec
  sl_for (inv c X H arg2 arg7 gk O0) $$ [XC0 XC1 XC2 XC3 HC0 HC1 HC2 HC3 OS0 OS1 OS2 OS3 OC0 OC1 OC2 OC3 XH HH OA Hk Ht HW]
  case region =>
    intro k _
    exact inv_step c X H arg2 harg2 arg7 harg7 gk O0 k
  · irw [inv_zero c X H arg2 gk arg7 O0]
    isplitl [XC0]; · iexists fx0; iexact XC0
    isplitl [XC1]; · iexists fx1; iexact XC1
    isplitl [XC2]; · iexists fx2; iexact XC2
    isplitl [XC3]; · iexists fx3; iexact XC3
    isplitl [HC0]; · iexists fh0; iexact HC0
    isplitl [HC1]; · iexists fh1; iexact HC1
    isplitl [HC2]; · iexists fh2; iexact HC2
    isplitl [HC3]; · iexists fh3; iexact HC3
    isplitl [OC0 OS0]; · isplitl [OC0] <;> iassumption
    isplitl [OC1 OS1]; · isplitl [OC1] <;> iassumption
    isplitl [OC2 OS2]; · isplitl [OC2] <;> iassumption
    isplitl [OC3 OS3]; · isplitl [OC3] <;> iassumption
    isplitl [XH]; · iexact XH
    isplitl [HH]; · iexact HH
    isplitl [OA]; · iexact OA
    isplitr [Hk Ht HW]; · iapply (Entails.of_eq (bigSep_empty (M := 𝕄)).symm); iempintro
    isplitl [Hk]; · iexact Hk
    isplitl [Ht]
    · iexists _
      isplitr; swap; iexact Ht
      ipureintro
      exact padZero_init arg7 _ _
    iexists W; iexact HW
  iintro %_ Hi
  ihave Hi := (Entails.of_eq ((inv_exit c X H arg2 gk arg7 O0 _).trans (inv_end c X H arg2 gk arg7 O0))) $$ Hi
  icases Hi with ⟨⟨XC0, XS0⟩, ⟨XC1, XS1⟩, ⟨XC2, XS2⟩, ⟨XC3, XS3⟩, ⟨HC0, HS0⟩, ⟨HC1, HS1⟩, ⟨HC2, HS2⟩, ⟨HC3, HS3⟩,
    ⟨%fo0, P0⟩, ⟨%fo1, P1⟩, ⟨%fo2, P2⟩, ⟨%fo3, P3⟩, XH, HH, -, OB, Hk, ⟨%gt, %hg, Ht⟩, %W', HW⟩
  sl_exec
  sl_step
  isplitl [XH HH OB P0_dst P1_dst P2_dst P3_dst]
  · isplitl [XH]; · iexact XH
    isplitl [HH]; · iexact HH
    iapply (Entails.of_eq (four_last (fun b => oHome c b (outV X H (arg2.view.read (Elt F) gk)))).symm)
    isplitl [P0_dst]; · iexact P0_dst
    isplitl [P1_dst]; · iexact P1_dst
    isplitl [P2_dst]; · iexact P2_dst
    isplitl [P3_dst]; · iexact P3_dst
    iexact OB
  isplitl [Hk]; · iexact Hk
  isplitl [Ht]; · iexists gt; iexact Ht
  isplitr [HW]
  · isplitl [XS0]; · iexact XS0
    isplitl [XS1]; · iexact XS1
    isplitl [XS2]; · iexact XS2
    isplitl [XS3]; · iexact XS3
    isplitl [HS0]; · iexact HS0
    isplitl [HS1]; · iexact HS1
    isplitl [HS2]; · iexact HS2
    isplitl [HS3]; · iexact HS3
    isplitl [P0_src]; · iexists fo0; iexact P0_src
    isplitl [P1_src]; · iexists fo1; iexact P1_src
    isplitl [P2_src]; · iexists fo2; iexact P2_src
    isplitl [P3_src]; · iexists fo3; iexact P3_src
    isplitl [XC0 XC1 XC2 XC3]
    · isplitl [XC0]; · iexact XC0
      isplitl [XC1]; · iexact XC1
      isplitl [XC2]; · iexact XC2
      iexact XC3
    isplitl [HC0 HC1 HC2 HC3]
    · isplitl [HC0]; · iexact HC0
      isplitl [HC1]; · iexact HC1
      isplitl [HC2]; · iexact HC2
      iexact HC3
    isplitl [P0]; · iexact P0
    isplitl [P1]; · iexact P1
    isplitl [P2]; · iexact P2
    iexact P3
  iexists _; iexact HW

end Body
end Cert.Kernel.Ringed

end
-- ==== Proof.KernelParts.lean ====
/-
  The three rings as whole buffers, the pipeline's data around the body's one run, and what the region takes and gives back.
-/
module

public import proofs.«01_k».proof.Proof.KernelBody
public import Idealize.ShloMosaic.Lib.Pipeline.FrameSuffixV

@[expose] public section

set_option maxRecDepth 16384

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UD nD τ) ℕ

/-! ## Element sets -/

abbrev C144 (b : Fin 16) : Finset S32768x144.Idx := (Rect.unit (s := S32768x144) (chOff b) S2048x144.size (chOff_inb b)).set
abbrev C9 (b : Fin 16) : Finset S32768x9.Idx := (Rect.unit (s := S32768x9) (chOff b) S2048x9.size (chOff_inb9 b)).set
abbrev L144 (s : Fin 4) : Finset S4x2048x144.Idx := (Rect.unit (s := S4x2048x144) (slotOff s) S1x2048x144.size (slotOff_inb s)).set
abbrev L9 (s : Fin 4) : Finset S4x2048x9.Idx := (Rect.unit (s := S4x2048x9) (slotOff s) S1x2048x9.size (slotOff_inb9 s)).set

omit [FloatOps F] in
theorem xCh_set (b : Fin 16) : (xCh b).view.set = C144 b := View.set_slice_whole _ _
omit [FloatOps F] in
theorem hCh_set (b : Fin 16) : (hCh b).view.set = C9 b := View.set_slice_whole _ _
omit [FloatOps F] in
theorem oCh_set (b : Fin 16) : (oCh b).view.set = C144 b := View.set_slice_whole _ _
omit [FloatOps F] in
theorem xSl_set (s : Fin 4) : (xSl s).view.set = L144 s := (View.set_reshape _ _).trans (View.set_slice_whole _ _)
omit [FloatOps F] in
theorem hSl_set (s : Fin 4) : (hSl s).view.set = L9 s := (View.set_reshape _ _).trans (View.set_slice_whole _ _)
omit [FloatOps F] in
theorem oSl_set (s : Fin 4) : (oSl s).view.set = L144 s := (View.set_reshape _ _).trans (View.set_slice_whole _ _)

/-- Chunk `b` is the rows whose number divided by 2048 is `b`; -/
theorem mem_C144 (b : Fin 16) (y : S32768x144.Idx) : y ∈ C144 b ↔ (y 0).val / 2048 = b.val := by
  rw [Rect.mem_set_unit]
  have h1 : (y 1).val < 144 := (y 1).isLt
  constructor
  · intro H; have a0 : 2048 * b.val ≤ (y 0).val ∧ (y 0).val < 2048 * b.val + 2048 := H 0; omega
  · intro H i; fin_cases i
    · show 2048 * b.val ≤ (y 0).val ∧ (y 0).val < 2048 * b.val + 2048; omega
    · show 0 ≤ (y 1).val ∧ (y 1).val < 0 + 144; omega
theorem mem_C9 (b : Fin 16) (y : S32768x9.Idx) : y ∈ C9 b ↔ (y 0).val / 2048 = b.val := by
  rw [Rect.mem_set_unit]
  have h1 : (y 1).val < 9 := (y 1).isLt
  constructor
  · intro H; have a0 : 2048 * b.val ≤ (y 0).val ∧ (y 0).val < 2048 * b.val + 2048 := H 0; omega
  · intro H i; fin_cases i
    · show 2048 * b.val ≤ (y 0).val ∧ (y 0).val < 2048 * b.val + 2048; omega
    · show 0 ≤ (y 1).val ∧ (y 1).val < 0 + 9; omega
/-- slot `s` is the entries of leading coordinate `s`. -/
theorem mem_L144 (s : Fin 4) (y : S4x2048x144.Idx) : y ∈ L144 s ↔ (y 0).val = s.val := by
  rw [Rect.mem_set_unit]
  have h1 : (y 1).val < 2048 := (y 1).isLt
  have h2 : (y 2).val < 144 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 144; omega
theorem mem_L9 (s : Fin 4) (y : S4x2048x9.Idx) : y ∈ L9 s ↔ (y 0).val = s.val := by
  rw [Rect.mem_set_unit]
  have h1 : (y 1).val < 2048 := (y 1).isLt
  have h2 : (y 2).val < 9 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 9; omega

theorem C144_disjoint : ∀ b b' : Fin 16, b ≠ b' → Disjoint (C144 b) (C144 b') := by
  intro b b' hne; rw [Finset.disjoint_left]; intro y hy hy'; rw [mem_C144] at hy hy'; exact hne (Fin.ext (hy.symm.trans hy'))
theorem C144_cover : (Finset.univ : Finset (Fin 16)).biUnion C144 = Finset.univ := by
  ext y; simp only [Finset.mem_biUnion, Finset.mem_univ, true_and, iff_true]
  exact ⟨⟨(y 0).val / 2048, by have : (y 0).val < 32768 := (y 0).isLt; omega⟩, by rw [mem_C144]⟩
theorem C9_disjoint : ∀ b b' : Fin 16, b ≠ b' → Disjoint (C9 b) (C9 b') := by
  intro b b' hne; rw [Finset.disjoint_left]; intro y hy hy'; rw [mem_C9] at hy hy'; exact hne (Fin.ext (hy.symm.trans hy'))
theorem C9_cover : (Finset.univ : Finset (Fin 16)).biUnion C9 = Finset.univ := by
  ext y; simp only [Finset.mem_biUnion, Finset.mem_univ, true_and, iff_true]
  exact ⟨⟨(y 0).val / 2048, by have : (y 0).val < 32768 := (y 0).isLt; omega⟩, by rw [mem_C9]⟩
theorem L144_disjoint : ∀ s s' : Fin 4, s ≠ s' → Disjoint (L144 s) (L144 s') := by
  intro s s' hne; rw [Finset.disjoint_left]; intro y hy hy'; rw [mem_L144] at hy hy'; exact hne (Fin.ext (hy.symm.trans hy'))
theorem L144_cover : (Finset.univ : Finset (Fin 4)).biUnion L144 = Finset.univ := by
  ext y; simp only [Finset.mem_biUnion, Finset.mem_univ, true_and, iff_true]; exact ⟨(y 0).cast (by decide), by rw [mem_L144]; rfl⟩
theorem L9_disjoint : ∀ s s' : Fin 4, s ≠ s' → Disjoint (L9 s) (L9 s') := by
  intro s s' hne; rw [Finset.disjoint_left]; intro y hy hy'; rw [mem_L9] at hy hy'; exact hne (Fin.ext (hy.symm.trans hy'))
theorem L9_cover : (Finset.univ : Finset (Fin 4)).biUnion L9 = Finset.univ := by
  ext y; simp only [Finset.mem_biUnion, Finset.mem_univ, true_and, iff_true]; exact ⟨(y 0).cast (by decide), by rw [mem_L9]; rfl⟩

/-! ## Whole buffers as their chunks and slots -/

omit [FloatOps F] in
theorem x_eq (c : Dev nD) (X : Buf (Elt F) ((c : Thread nD τ).loc main_v52)) :
    (((c : Thread nD τ).loc main_v52) ↦{fullShare} X : sProp 𝕄) = bigSep Finset.univ (xHome c X) := by
  rw [Ring.pointsTo_blocks (ℓ := (c : Thread nD τ).loc main_v52) C144 C144_disjoint C144_cover]
  exact bigSep_congr fun b _ => by rw [← xCh_set]; rfl
omit [FloatOps F] in
theorem h_eq (c : Dev nD) (H : Buf (Elt F) ((c : Thread nD τ).loc main_arg1)) :
    (((c : Thread nD τ).loc main_arg1) ↦{fullShare} H : sProp 𝕄) = bigSep Finset.univ (hHome c H) := by
  rw [Ring.pointsTo_blocks (ℓ := (c : Thread nD τ).loc main_arg1) C9 C9_disjoint C9_cover]
  exact bigSep_congr fun b _ => by rw [← hCh_set]; rfl
omit [FloatOps F] in
theorem o_eq (c : Dev nD) (O : Buf (Elt F) ((c : Thread nD τ).loc main_v53)) :
    (((c : Thread nD τ).loc main_v53) ↦{fullShare} O : sProp 𝕄) = bigSep Finset.univ (fun b => oHome c b O) := by
  rw [Ring.pointsTo_blocks (ℓ := (c : Thread nD τ).loc main_v53) C144 C144_disjoint C144_cover]
  exact bigSep_congr fun b _ => by rw [← oCh_set]; rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

omit [FloatOps F] in
theorem xSlot_eq (c : Dev nD) (s : Fin 4) (f) : xSlot c s f = (((c : Thread nD τ).loc cc0_scratch0) ↦[L144 s]{fullShare} f : sProp 𝕄) :=
  congrArg (fun S => (_ ↦[S]{fullShare} f : sProp 𝕄)) (xSl_set s)
omit [FloatOps F] in
theorem hSlot_eq (c : Dev nD) (s : Fin 4) (f) : hSlot c s f = (((c : Thread nD τ).loc cc0_scratch1) ↦[L9 s]{fullShare} f : sProp 𝕄) :=
  congrArg (fun S => (_ ↦[S]{fullShare} f : sProp 𝕄)) (hSl_set s)
omit [FloatOps F] in
theorem oSlot_eq (c : Dev nD) (s : Fin 4) (f) : oSlot c s f = (((c : Thread nD τ).loc cc0_scratch2) ↦[L144 s]{fullShare} f : sProp 𝕄) :=
  congrArg (fun S => (_ ↦[S]{fullShare} f : sProp 𝕄)) (oSl_set s)

/-- A buffer whole is its four slots, and back. -/
theorem xBuf_split (c : Dev nD) :
    iprop(∃ f : Buf (Elt F) ((c : Thread nD τ).loc cc0_scratch0), ((c : Thread nD τ).loc cc0_scratch0) ↦{fullShare} f)
      ⊢ (iprop((∃ f, xSlot c 0 f) ∗ (∃ f, xSlot c 1 f) ∗ (∃ f, xSlot c 2 f) ∗ ∃ f, xSlot c 3 f) : sProp 𝕄) := by
  iintro ⟨%f, H⟩
  ihave H2 := (Entails.of_eq ((Ring.pointsTo_blocks (Ix := Unit) (Name := ℕ) (U := UD nD τ) (Lvl := ℕ) (q := fullShare) (ℓ := (c : Thread nD τ).loc cc0_scratch0) L144 L144_disjoint L144_cover f).trans (bigSep_fin4 _))) $$ H
  icases H2 with ⟨H0, H1, H2, H3⟩
  isplitl [H0]; · iexists f; iapply (Entails.of_eq (xSlot_eq c 0 f).symm); iexact H0
  isplitl [H1]; · iexists f; iapply (Entails.of_eq (xSlot_eq c 1 f).symm); iexact H1
  isplitl [H2]; · iexists f; iapply (Entails.of_eq (xSlot_eq c 2 f).symm); iexact H2
  iexists f; iapply (Entails.of_eq (xSlot_eq c 3 f).symm); iexact H3
theorem hBuf_split (c : Dev nD) :
    iprop(∃ f : Buf (Elt F) ((c : Thread nD τ).loc cc0_scratch1), ((c : Thread nD τ).loc cc0_scratch1) ↦{fullShare} f)
      ⊢ (iprop((∃ f, hSlot c 0 f) ∗ (∃ f, hSlot c 1 f) ∗ (∃ f, hSlot c 2 f) ∗ ∃ f, hSlot c 3 f) : sProp 𝕄) := by
  iintro ⟨%f, H⟩
  ihave H2 := (Entails.of_eq ((Ring.pointsTo_blocks (Ix := Unit) (Name := ℕ) (U := UD nD τ) (Lvl := ℕ) (q := fullShare) (ℓ := (c : Thread nD τ).loc cc0_scratch1) L9 L9_disjoint L9_cover f).trans (bigSep_fin4 _))) $$ H
  icases H2 with ⟨H0, H1, H2, H3⟩
  isplitl [H0]; · iexists f; iapply (Entails.of_eq (hSlot_eq c 0 f).symm); iexact H0
  isplitl [H1]; · iexists f; iapply (Entails.of_eq (hSlot_eq c 1 f).symm); iexact H1
  isplitl [H2]; · iexists f; iapply (Entails.of_eq (hSlot_eq c 2 f).symm); iexact H2
  iexists f; iapply (Entails.of_eq (hSlot_eq c 3 f).symm); iexact H3
theorem oBuf_split (c : Dev nD) :
    iprop(∃ f : Buf (Elt F) ((c : Thread nD τ).loc cc0_scratch2), ((c : Thread nD τ).loc cc0_scratch2) ↦{fullShare} f)
      ⊢ (iprop((∃ f, oSlot c 0 f) ∗ (∃ f, oSlot c 1 f) ∗ (∃ f, oSlot c 2 f) ∗ ∃ f, oSlot c 3 f) : sProp 𝕄) := by
  iintro ⟨%f, H⟩
  ihave H2 := (Entails.of_eq ((Ring.pointsTo_blocks (Ix := Unit) (Name := ℕ) (U := UD nD τ) (Lvl := ℕ) (q := fullShare) (ℓ := (c : Thread nD τ).loc cc0_scratch2) L144 L144_disjoint L144_cover f).trans (bigSep_fin4 _))) $$ H
  icases H2 with ⟨H0, H1, H2, H3⟩
  isplitl [H0]; · iexists f; iapply (Entails.of_eq (oSlot_eq c 0 f).symm); iexact H0
  isplitl [H1]; · iexists f; iapply (Entails.of_eq (oSlot_eq c 1 f).symm); iexact H1
  isplitl [H2]; · iexists f; iapply (Entails.of_eq (oSlot_eq c 2 f).symm); iexact H2
  iexists f; iapply (Entails.of_eq (oSlot_eq c 3 f).symm); iexact H3
theorem xBuf_join (c : Dev nD) :
    iprop((∃ f, xSlot c 0 f) ∗ (∃ f, xSlot c 1 f) ∗ (∃ f, xSlot c 2 f) ∗ ∃ f, xSlot c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) L144 L144_disjoint L144_cover f0)
  irw [bigSep_fin4]
  isplitl [H0]; · iexists f0; iapply (Entails.of_eq (xSlot_eq c 0 f0)); iexact H0
  isplitl [H1]; · iexists f1; iapply (Entails.of_eq (xSlot_eq c 1 f1)); iexact H1
  isplitl [H2]; · iexists f2; iapply (Entails.of_eq (xSlot_eq c 2 f2)); iexact H2
  iexists f3; iapply (Entails.of_eq (xSlot_eq c 3 f3)); iexact H3
theorem hBuf_join (c : Dev nD) :
    iprop((∃ f, hSlot c 0 f) ∗ (∃ f, hSlot c 1 f) ∗ (∃ f, hSlot c 2 f) ∗ ∃ f, hSlot c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) L9 L9_disjoint L9_cover f0)
  irw [bigSep_fin4]
  isplitl [H0]; · iexists f0; iapply (Entails.of_eq (hSlot_eq c 0 f0)); iexact H0
  isplitl [H1]; · iexists f1; iapply (Entails.of_eq (hSlot_eq c 1 f1)); iexact H1
  isplitl [H2]; · iexists f2; iapply (Entails.of_eq (hSlot_eq c 2 f2)); iexact H2
  iexists f3; iapply (Entails.of_eq (hSlot_eq c 3 f3)); iexact H3
theorem oBuf_join (c : Dev nD) :
    iprop((∃ f, oSlot c 0 f) ∗ (∃ f, oSlot c 1 f) ∗ (∃ f, oSlot c 2 f) ∗ ∃ f, oSlot c 3 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch2) L144 L144_disjoint L144_cover f0)
  irw [bigSep_fin4]
  isplitl [H0]; · iexists f0; iapply (Entails.of_eq (oSlot_eq c 0 f0)); iexact H0
  isplitl [H1]; · iexists f1; iapply (Entails.of_eq (oSlot_eq c 1 f1)); iexact H1
  isplitl [H2]; · iexists f2; iapply (Entails.of_eq (oSlot_eq c 2 f2)); iexact H2
  iexists f3; iapply (Entails.of_eq (oSlot_eq c 3 f3)); iexact H3

/-! ## The body's own semaphores -/

/-- The twelve cells of the three rings. -/
abbrev osem : Fin 12 → SemLoc sig := fun i =>
  match i with
  | 0 => .dma (xSm 0).sem | 1 => .dma (xSm 1).sem | 2 => .dma (xSm 2).sem | 3 => .dma (xSm 3).sem
  | 4 => .dma (hSm 0).sem | 5 => .dma (hSm 1).sem | 6 => .dma (hSm 2).sem | 7 => .dma (hSm 3).sem
  | 8 => .dma (oSm 0).sem | 9 => .dma (oSm 1).sem | 10 => .dma (oSm 2).sem | 11 => .dma (oSm 3).sem
theorem ownSemFacts : Pipeline.OwnSemFacts spec0 osem := by decide

omit [FloatOps F] in
theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ
omit [FloatOps F] in
/-- The body's own semaphores at zero are the rings' cells. -/
theorem ownSems0_eq (c : Dev nD) : (Pipeline.ownSems0 (Ix := Unit) (Name := ℕ) (U := UD nD τ) (Lvl := ℕ) (Val := Elt F) (τ := τ) osem c : sProp 𝕄)
    = iprop(xCell c 0 ∗ xCell c 1 ∗ xCell c 2 ∗ xCell c 3 ∗ hCell c 0 ∗ hCell c 1 ∗ hCell c 2 ∗ hCell c 3 ∗ oCell c 0 ∗ oCell c 1 ∗ oCell c 2 ∗ oCell c 3) := by
  unfold Pipeline.ownSems0; rw [bigSep_fin12]

/-! ## The pipeline's data -/

variable (m : (ℓ : Loc nD τ sig) → Buf (Elt F) ℓ) (ρ : Dev nD → PrngReg)

/-- The result's array at the end: every row's spread products times the weights. -/
def outFin (c : Dev nD) : Buf (Elt F) ((c : Thread nD τ).loc main_v53) := outV (V m c main_v52) (V m c main_arg1) (iblk m c 0 t0_0)
/-- The result's array before and after the one point. -/
def oAt (c : Dev nD) (n : ℕ) : Buf (Elt F) ((c : Thread nD τ).loc main_v53) := if n = 0 then V m c main_v53 else outFin m c

/-- What the body holds outside the staged weights. -/
def Φ (c : Dev nD) (O : Buf (Elt F) ((c : Thread nD τ).loc main_v53)) : sProp 𝕄 :=
  iprop((bigSep Finset.univ (xHome c (V m c main_v52)) ∗ bigSep Finset.univ (hHome c (V m c main_arg1)) ∗ bigSep Finset.univ (fun b => oHome c b O))
    ∗ (∃ g, tB.view.loc (c : Thread nD τ) ↦[tB.view.set]{fullShare} g) ∗ rings c)

abbrev st0 (t : Fin cfg0.N) : Memref sig .tc .vmem S2304x144 .bf16 := win0_0.stage (cfg0.slots t 0)
abbrev hst0 (t : Fin cfg0.N) : (st0 t).IsWhole := hstage0_0 0

def dats (_ : Fin 1) (c : Dev nD) : Dat τ (Elt F) Unit ℕ (UD nD τ) ℕ cfg0 c where
  A w := V m c (Pipeline.arrRef spec0 w)
  after w t := match w with
    | ⟨0, _⟩ => iblk m c 0 t
  Φ t := Φ m c (oAt m c t.val)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

/-- The body table's TensorCore entry is the body on the point's staging buffer. -/
theorem defs_tc : (defs₀ (F := F)) .tc cfg0.body
    = fun a => bodyP (win0_0.stage (a.2 0)) (hstage0_0 0) tB (Memref.isWhole_whole _) := rfl
theorem prog_eq (t : Fin cfg0.N) : (defs₀ (F := F)) .tc cfg0.body (cfg0.bodyArgs t (cfg0.slots t)) = bodyP (st0 t) (hst0 t) tB (Memref.isWhole_whole _) :=
  (congrFun defs_tc _).trans rfl

/-! ## What the region takes and gives back -/

abbrev Hset : Finset (Ref sig .tc) := {main_v52, main_arg1}
abbrev Rset : Finset (Ref sig .tc) := {main_v53}
theorem Hset_sub : Hset ⊆ Pipeline.restRefs sig spec0 := by decide
theorem Rset_sub : Rset ⊆ Pipeline.restRefs sig spec0 \ Hset := by decide

/-- What each buffer holds when the region ends: the result's array at its contents, every other as it was. -/
def G (c : Dev nD) (b : Ref sig .tc) : Buf (Elt F) ((c : Thread nD τ).loc b) := if h : b = main_v53 then h ▸ outFin m c else V m c b
theorem G_out (c : Dev nD) : G m c main_v53 = outFin m c := dif_pos rfl

omit [FloatOps F] in
theorem bigSep_H (Ψ : Ref sig .tc → sProp 𝕄) : bigSep Hset Ψ = iprop(Ψ main_v52 ∗ Ψ main_arg1) := by
  unfold Hset; rw [bigSep_insert (by decide), bigSep_singleton]; rfl
omit [FloatOps F] in
theorem bigSep_R (Ψ : Ref sig .tc → sProp 𝕄) : bigSep Rset Ψ = Ψ main_v53 := bigSep_singleton

omit [FloatOps F] in
theorem tB_eq (c : Dev nD) (g : Buf (Elt F) ((c : Thread nD τ).loc cc0_scratch3)) :
    (tB.view.loc (c : Thread nD τ) ↦[tB.view.set]{fullShare} g : sProp 𝕄) = (((c : Thread nD τ).loc cc0_scratch3) ↦{fullShare} g) :=
  congrArg (fun S => (_ ↦[S]{fullShare} g : sProp 𝕄)) (View.set_whole cc0_scratch3)

/-- What the region is entered with is what the body needs; -/
theorem region_in (c : Dev nD) : Pipeline.ΦDRV osem spec0 Hset Rset (V m) (V m) c ⊢ (Φ m c (V m c main_v53) : sProp 𝕄) := by
  unfold Pipeline.ΦDRV Φ
  rw [scopedRest0_eq, ownSems0_eq, bigSep_H, bigSep_R, x_eq, h_eq, o_eq]
  iintro ⟨⟨B0, B1, B2, ⟨%g, B3⟩⟩, ⟨X0, X1, X2, X3, H0, H1, H2, H3, O0, O1, O2, O3⟩, ⟨HX, HH⟩, HO⟩
  isplitl [HX HH HO]
  · isplitl [HX]; · iexact HX
    isplitl [HH]; · iexact HH
    iexact HO
  isplitl [B3]; · iexists g; iapply (Entails.of_eq (tB_eq c g).symm); iexact B3
  ihave B0 := (xBuf_split c) $$ B0
  ihave B1 := (hBuf_split c) $$ B1
  ihave B2 := (oBuf_split c) $$ B2
  icases B0 with ⟨XS0, XS1, XS2, XS3⟩
  icases B1 with ⟨HS0, HS1, HS2, HS3⟩
  icases B2 with ⟨OS0, OS1, OS2, OS3⟩
  isplitl [XS0]; · iexact XS0
  isplitl [XS1]; · iexact XS1
  isplitl [XS2]; · iexact XS2
  isplitl [XS3]; · iexact XS3
  isplitl [HS0]; · iexact HS0
  isplitl [HS1]; · iexact HS1
  isplitl [HS2]; · iexact HS2
  isplitl [HS3]; · iexact HS3
  isplitl [OS0]; · iexact OS0
  isplitl [OS1]; · iexact OS1
  isplitl [OS2]; · iexact OS2
  isplitl [OS3]; · iexact OS3
  isplitl [X0 X1 X2 X3]
  · isplitl [X0]; · iexact X0
    isplitl [X1]; · iexact X1
    isplitl [X2]; · iexact X2
    iexact X3
  isplitl [H0 H1 H2 H3]
  · isplitl [H0]; · iexact H0
    isplitl [H1]; · iexact H1
    isplitl [H2]; · iexact H2
    iexact H3
  isplitl [O0]; · iexact O0
  isplitl [O1]; · iexact O1
  isplitl [O2]; · iexact O2
  iexact O3

/-- and what the body leaves is what the region gives back. -/
theorem region_out (c : Dev nD) : (Φ m c (outFin m c) : sProp 𝕄) ⊢ Pipeline.ΦDRV osem spec0 Hset Rset (V m) (G m) c := by
  unfold Pipeline.ΦDRV Φ
  rw [scopedRest0_eq, ownSems0_eq, bigSep_H, bigSep_R, G_out, x_eq, h_eq, o_eq]
  iintro ⟨⟨HX, HH, HO⟩, ⟨%g, B3⟩, XS0, XS1, XS2, XS3, HS0, HS1, HS2, HS3, OS0, OS1, OS2, OS3, ⟨X0, X1, X2, X3⟩, ⟨H0, H1, H2, H3⟩, ⟨O0, O1, O2, O3⟩⟩
  isplitl [B3 XS0 XS1 XS2 XS3 HS0 HS1 HS2 HS3 OS0 OS1 OS2 OS3]
  · isplitl [XS0 XS1 XS2 XS3]
    · iapply (xBuf_join c)
      isplitl [XS0]; · iexact XS0
      isplitl [XS1]; · iexact XS1
      isplitl [XS2]; · iexact XS2
      iexact XS3
    isplitl [HS0 HS1 HS2 HS3]
    · iapply (hBuf_join c)
      isplitl [HS0]; · iexact HS0
      isplitl [HS1]; · iexact HS1
      isplitl [HS2]; · iexact HS2
      iexact HS3
    isplitl [OS0 OS1 OS2 OS3]
    · iapply (oBuf_join c)
      isplitl [OS0]; · iexact OS0
      isplitl [OS1]; · iexact OS1
      isplitl [OS2]; · iexact OS2
      iexact OS3
    iexists g; iapply (Entails.of_eq (tB_eq c g)); iexact B3
  isplitl [X0 X1 X2 X3 H0 H1 H2 H3 O0 O1 O2 O3]
  · isplitl [X0]; · iexact X0
    isplitl [X1]; · iexact X1
    isplitl [X2]; · iexact X2
    isplitl [X3]; · iexact X3
    isplitl [H0]; · iexact H0
    isplitl [H1]; · iexact H1
    isplitl [H2]; · iexact H2
    isplitl [H3]; · iexact H3
    isplitl [O0]; · iexact O0
    isplitl [O1]; · iexact O1
    isplitl [O2]; · iexact O2
    iexact O3
  isplitl [HX HH]
  · isplitl [HX]; · iexact HX
    iexact HH
  iexact HO

end Cert.Kernel.Ringed

end
-- ==== Proof.KernelLaunch.lean ====
/-
  The launch: the body's obligation, and the run of @main with the result's array at its contents, every other buffer as the host lines leave it and every semaphore at zero.
-/
module

public import proofs.«01_k».proof.Proof.KernelParts

@[expose] public section

set_option maxRecDepth 16384

noncomputable section

namespace Cert.Kernel.Ringed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UD nD τ) ℕ

variable (m : (ℓ : Loc nD τ sig) → Buf (Elt F) ℓ) (ρ : Dev nD → PrngReg)

/-! ## The run -/

/-- A run with a result that is used by what follows. -/
theorem wp_then {M : Type} [URA M] {P Post : sProp M} {W : sWPT M PUnit} [hW : sWPT.Frameable W] {Q : PUnit → sProp M} (h : P ⊢ W fun _ => Post) :
    iprop(P ∗ (Post -∗ Q ⟨⟩)) ⊢ W Q :=
  (show iprop(P ∗ (Post -∗ Q ⟨⟩)) ⊢ iprop(W (fun _ => Post) ∗ (Post -∗ Q ⟨⟩)) by
    iintro ⟨A, B⟩
    isplitl [A]; · iapply h; iexact A
    iexact B).trans (hW.frame.trans (W.mono fun _ => (show iprop(Post ∗ (Post -∗ Q ⟨⟩)) ⊢ Q ⟨⟩ by
      iintro ⟨A, B⟩; iapply B; iexact A)))

set_option maxHeartbeats 2000000 in
set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, after_w0]
  rw [show (dats m 0 c).Φ (Fin.castSucc t0_0) = Φ m c (V m c main_v53) from rfl, show (dats m 0 c).Φ (Fin.succ t0_0) = Φ m c (outFin m c) from rfl]
  unfold Dat.owesAt Pipeline.owesWithin
  rw [show (dats m 0 c).owed (Fin.castSucc t0_0) = 0 from rfl, show (dats m 0 c).owed (Fin.succ t0_0) = 0 from rfl]
  unfold owns Φ outFin
  iintro ⟨⟨Hio, ⟨%g7, Ht⟩, Hr⟩, ⟨%W, -, HW⟩, ⟨%d0, %g0, %hg0, Hk⟩⟩
  rw [← hg0]
  sl_rw [prog_eq t0_0]
  iapply (wp_then (bodyRun c (V m c main_v52) (V m c main_arg1) (st0 t0_0) (hst0 t0_0) tB (Memref.isWhole_whole _) g0 (V m c main_v53) g7 W))
  isplitl [Hio Hk Ht Hr HW]
  · isplitl [Hio]; · iexact Hio
    isplitl [Hk]; · iexact Hk
    isplitl [Ht]; · iexact Ht
    isplitl [Hr]; · iexact Hr
    iexact HW
  · iintro ⟨Hio, Hk, Ht, Hr, ⟨%W', HW⟩⟩
    isplitl [Hio Ht Hr]
    · isplitl [Hio]; · iexact Hio
      isplitl [Ht]; · iexact Ht
      iexact Hr
    isplitl [HW]
    · iexists W'; isplitr; · ipureintro; exact fun _ _ => Or.inl trivial
      iexact HW
    iexists _; isplitr; · ipureintro; rfl
    iexact Hk

set_option maxHeartbeats 800000 in
/-- @main around the region, over the algebra with the counters. -/
theorem hmainD : Pipeline.HMainK (Ix := Unit) (Name := ℕ) (U := UD nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer outside the pipeline holds at the end. -/
abbrev endAt (c : Dev nD) (b : Ref sig .tc) : Buf (Elt F) ((c : Thread nD τ).loc b) :=
  StableHlo.after [hostOps1].flatten (Pipeline.withArrays spec0 c (Pipeline.withR (V0 m c) Rset c (G m c)) fun w => (dats m 0 c).arrAt w cfg0.N) (Proc.devRef .tc b)

set_option maxHeartbeats 2000000 in
set_option backward.isDefEq.respectTransparency.types false in
/-- Every weakly fair execution ends, without a fault, every buffer outside the pipeline as the lines after the region
    leave it and every semaphore at zero. -/
theorem run_main : θ_run defs (onTc (τ := τ) (main (F := F))) (s₀ m ρ)
    (fun r => (∀ c : Dev nD, ∀ b ∈ Pipeline.restRefs sig spec0, r.2.mem ((c : Thread nD τ).loc b) = endAt m c b) ∧ r.2.sem = fun _ => 0) :=
  Pipeline.θ_run_frame_dmaR_aroundV cfgs (dats m) (0 : Fin 1) launch0 osem defs₀ 𝒱₀ ownSemFacts Hset Rset Hset_sub Rset_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := fun _ _ => rfl) (hin := region_in m) (hout := region_out m)
    (Q' := _) (hQ' := fun r h => ⟨fun c b hb => (h.1 c).2 b hb, h.2⟩)

end Cert.Kernel.Ringed

end
-- ==== Proof.KernelRun.lean ====
/-
  The run of @main read at the buffers the claims name: every argument as launched, and the result.
-/
module

public import proofs.«01_k».proof.Proof.KernelLaunch

@[expose] public section

set_option maxRecDepth 16384

noncomputable section

namespace Cert.Kernel.Ringed

open Cert.Kernel Cert.Kernel.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- A buffer that is neither the result's array nor the reshaped result ends as the region found it. -/
theorem endAt_other (c : Dev nD) (b : Ref sig .tc) (h54 : b ≠ main_v54) (hw : ∀ w, Pipeline.arrRef spec0 w ≠ b) (h53 : b ∉ Rset) :
    endAt m c b = V m c b := by
  unfold endAt
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h54)),
    Pipeline.withArrays_of_ne _ c _ _ b hw, Pipeline.withR_of_not_mem _ _ _ _ b h53]

/-- The reshaped result is the result's array, read through the reshape. -/
theorem endAt_out (c : Dev nD) : endAt m c main_v54 = shapeCast S32768x9x16 (outFin m c) shapeCasts_S32768x144_S32768x9x16 := by
  unfold endAt
  simp only [hostOps1, List.flatten_cons, List.flatten_nil, List.append_nil]
  rw [StableHlo.after_cons, StableHlo.after_nil, StableHlo.reshape_result]
  rw [Pipeline.withArrays_of_ne _ c _ _ main_v53 (by exact (by decide : ∀ w, Pipeline.arrRef spec0 w ≠ main_v53)),
    Pipeline.withR_of_mem _ _ _ _ main_v53 (by decide), G_out]
  rfl

/-- Every weakly fair execution ends without a fault, every argument as launched, the result named, every semaphore at zero. -/
theorem run : θ_run defs (onTc (τ := τ) (main (F := F))) ⟨m, fun _ => 0, ρ⟩
    (fun r => (∀ c : Dev nD,
      r.2.mem ((c.tc : Thread nD τ).loc main_v54) = shapeCast S32768x9x16 (outFin m c) shapeCasts_S32768x144_S32768x9x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(h.1 c main_v54 (Pipeline.mem_restRefs_of main_v54 (by decide) (by decide))).trans (endAt_out m c),
      (h.1 c main_arg0 (Pipeline.mem_restRefs_of main_arg0 (by decide) (by decide))).trans ((endAt_other m c main_arg0 (by decide) (by decide) (by decide)).trans (V_main_arg0 m c)),
      (h.1 c main_arg1 (Pipeline.mem_restRefs_of main_arg1 (by decide) (by decide))).trans ((endAt_other m c main_arg1 (by decide) (by decide) (by decide)).trans (V_main_arg1 m c)),
      (h.1 c main_arg2 (Pipeline.mem_restRefs_of main_arg2 (by decide) (by decide))).trans ((endAt_other m c main_arg2 (by decide) (by decide) (by decide)).trans (V_main_arg2 m c)),
      (h.1 c main_arg3 (Pipeline.mem_restRefs_of main_arg3 (by decide) (by decide))).trans ((endAt_other m c main_arg3 (by decide) (by decide) (by decide)).trans (V_main_arg3 m c)),
      (h.1 c main_arg4 (Pipeline.mem_restRefs_of main_arg4 (by decide) (by decide))).trans ((endAt_other m c main_arg4 (by decide) (by decide) (by decide)).trans (V_main_arg4 m c)),
      (h.1 c main_arg5 (Pipeline.mem_restRefs_of main_arg5 (by decide) (by decide))).trans ((endAt_other m c main_arg5 (by decide) (by decide) (by decide)).trans (V_main_arg5 m c)),
      (h.1 c main_arg6 (Pipeline.mem_restRefs_of main_arg6 (by decide) (by decide))).trans ((endAt_other m c main_arg6 (by decide) (by decide) (by decide)).trans (V_main_arg6 m c)),
      (h.1 c main_arg7 (Pipeline.mem_restRefs_of main_arg7 (by decide) (by decide))).trans ((endAt_other m c main_arg7 (by decide) (by decide) (by decide)).trans (V_main_arg7 m c)),
      (h.1 c main_arg8 (Pipeline.mem_restRefs_of main_arg8 (by decide) (by decide))).trans ((endAt_other m c main_arg8 (by decide) (by decide) (by decide)).trans (V_main_arg8 m c))⟩, h.2⟩)
    (run_main m ρ)

end Cert.Kernel.Ringed

end
-- ==== Proof.Same.lean ====
/-
  The ideal program is the kernel's text under names of its own: part by part the two are one program, so what is proved of
  the kernel at every float instance holds of the ideal program.
-/
module

public import proofs.«01_k».proof.Proof.KernelRun
public import proofs.«01_k».proof.Proof.Gen.KernelIdeal

@[expose] public section

set_option maxRecDepth 65536
set_option maxHeartbeats 4000000

noncomputable section

namespace Cert.Same

open Idealize.ShloMosaic Idealize.SL.Sem

variable {F : FTy → Type} [FloatOps F]

/-- The bodies' first parts agree. -/
theorem part1_eq : Cert.KernelIdeal.k0_part1 (F := F) = Cert.Kernel.k0_part1 (F := F) := rfl
/-- The bodies' second parts agree. -/
theorem part2_eq : Cert.KernelIdeal.k0_part2 (F := F) = Cert.Kernel.k0_part2 (F := F) := rfl
/-- The bodies' third parts agree. -/
theorem part3_eq : Cert.KernelIdeal.k0_part3 (F := F) = Cert.Kernel.k0_part3 (F := F) := rfl
/-- The bodies' fourth parts agree. -/
theorem part4_eq : Cert.KernelIdeal.k0_part4 (F := F) = Cert.Kernel.k0_part4 (F := F) := rfl
/-- The bodies agree. -/
theorem body_eq : Cert.KernelIdeal.cc0__so3_body (F := F) = Cert.Kernel.cc0__so3_body (F := F) := rfl
/-- The body tables agree. -/
theorem bodies_eq : Cert.KernelIdeal.defs₀ (F := F) = Cert.Kernel.defs₀ (F := F) := by
  refine congrArg Defs.onTc (funext fun l => funext fun a => ?_)
  match l, a with
  | ⟨0, _⟩, (t, s) => rfl
  | ⟨_ + 1, h⟩, _ => exact absurd h (Nat.not_lt.2 (Nat.le_add_left _ _))
/-- So do the tables with the pipeline's bodies. -/
theorem defs_eq : Cert.KernelIdeal.defs (F := F) = Cert.Kernel.defs (F := F) := congrArg (Pipeline.defs Cert.Kernel.pcfgs) bodies_eq
/-- And the host programs. -/
theorem main_eq : Cert.KernelIdeal.main (F := F) = Cert.Kernel.main (F := F) := rfl

/-- The ideal program's runs: every one ends without a fault, the arguments unchanged, the result the kernel's, every semaphore at zero. -/
theorem run (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
    (fun r => (∀ c : Dev Cert.KernelIdeal.nD,
      r.2.mem ((c.tc : Thread Cert.KernelIdeal.nD Cert.KernelIdeal.τ).loc Cert.KernelIdeal.main_v54) = shapeCast Cert.Kernel.S32768x9x16 (Cert.Kernel.Ringed.outFin (F := F) m c) Cert.Kernel.Gen.shapeCasts_S32768x144_S32768x9x16
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0) := by
  have h := Cert.Kernel.Ringed.run (F := F) m ρ
  rw [← defs_eq, ← main_eq] at h
  exact h

end Cert.Same

end
-- ==== Proof.Spec.lean ====
/-
  The value that both programs compute, over the real numbers, and the host operations that gather and
  accumulate by index words, each read at one element. Nothing here names a program.
-/
module

public import Idealize.ShloMosaic.PureOps.Ideal.Laws
public import Idealize.ShloMosaic.Lib.Routing.OpsSet
public import Idealize.ShloMosaic.Lib.Routing.OpsPair
public import Idealize.ShloMosaic.Lib.ReduceAll
public import Idealize.ShloMosaic.Lib.ValueIdx

@[expose] public section

noncomputable section

namespace Cert.Spec

open Idealize.ShloMosaic Idealize.ShloMosaic.ValueIdx Idealize.ShloMosaic.Routing

/-! ## Index words -/

/-- A word between zero and `n`, as the comparisons say, is a number of at most `n`. -/
theorem range_of_bits {w : BitVec 32} {n : Nat} (hn : n < 2 ^ 31)
    (h : IntOp.andi (IntOp.cmpi .sge w 0#32) (IntOp.cmpi .sle w (BitVec.ofNat 32 n)) = 1#1) : w.toNat ≤ n := by
  have h2 : IntOp.cmpi .sge w 0#32 = 1#1 ∧ IntOp.cmpi .sle w (BitVec.ofNat 32 n) = 1#1 := by
    revert h
    generalize IntOp.cmpi .sge w 0#32 = a
    generalize IntOp.cmpi .sle w (BitVec.ofNat 32 n) = b
    revert a b; decide
  have h0 := h2.1
  have h1 := h2.2
  simp only [IntOp.cmpi, StableHlo.Predicate.ofBool_eq_one_iff, BitVec.sle, decide_eq_true_eq, StableHlo.Predicate.toInt_ofNat_small n hn] at h0 h1
  have hz : (0#32 : BitVec 32).toInt = 0 := by decide
  rw [hz] at h0
  have hw := w.isLt
  have e := BitVec.toInt_eq_toNat_cond w
  split at e <;> omega

/-- A small word is not negative, so the wrap of negative words leaves it. -/
theorem wrap_small (k : Nat) (hk : k < 2 ^ 31) (n : BitVec 32) :
    Scalar.select (IntOp.cmpi .slt (BitVec.ofNat 32 k) 0#32) (IntOp.addi (BitVec.ofNat 32 k) n) (BitVec.ofNat 32 k) = BitVec.ofNat 32 k := by
  have h : IntOp.cmpi .slt (BitVec.ofNat 32 k) 0#32 ≠ 1#1 := by
    intro h
    have := (StableHlo.Predicate.slt_ofNat_iff k 0 hk (by decide)).1 h
    omega
  unfold Scalar.select
  exact if_neg h

/-- A word of at most `n` passes the range test. -/
theorem mask_small (k n : Nat) (hkn : k ≤ n) (hn : n < 2 ^ 31) :
    IntOp.andi (IntOp.cmpi .sge (BitVec.ofNat 32 k) 0#32) (IntOp.cmpi .sle (BitVec.ofNat 32 k) (BitVec.ofNat 32 n)) = 1#1 := by
  have h0 : IntOp.cmpi .sge (BitVec.ofNat 32 k) 0#32 = 1#1 := (StableHlo.Predicate.sle_ofNat_iff 0 k (by decide) (by omega)).2 (Nat.zero_le _)
  have h1 : IntOp.cmpi .sle (BitVec.ofNat 32 k) (BitVec.ofNat 32 n) = 1#1 := (StableHlo.Predicate.sle_ofNat_iff k n (by omega) hn).2 hkn
  rw [h0, h1]; decide

/-! ## Gathers by one index word, read at an element -/

section Gathers
variable {α : Type}

private theorem sum_three {p q r p' r' t : Nat} (hp : p = p') (hq : q = 0) (hr : r = r') (h : p' + r' = t) : p + q + r = t := by
  omega

/-- The dimension numbers of a gather along the middle axis of a rank-3 array. -/
abbrev midDims (A N B n : Nat) (wf : GatherDims.WF ⟨3, ![A, N, B]⟩ ⟨2, ![n, 1]⟩ ⟨3, ![A, n, B]⟩ [0, 2] [1] [] [1] [] 1 ![A, 1, B]) :
    GatherDims ⟨3, ![A, N, B]⟩ ⟨2, ![n, 1]⟩ ⟨3, ![A, n, B]⟩ where
  offsetDims := [0, 2]
  collapsedSliceDims := [1]
  operandBatchingDims := []
  startIndicesBatchingDims := []
  startIndexMap := [1]
  indexVectorDim := 1
  sliceSizes := ![A, 1, B]
  wf := wf

/-- A gather along the middle axis reads the row that the index word names. -/
theorem gather_mid {A N B n : Nat} (wf) (x : (⟨3, ![A, N, B]⟩ : Shape).Idx → α) (idx : IVec ⟨2, ![n, 1]⟩ 32) (a : Fin A) (e : Fin n) (b : Fin B)
    (k : Fin N) (hN : N < 2 ^ 31) (hk : idx (ix2 e (0 : Fin 1)) = BitVec.ofNat 32 k.val) :
    Host.gather (midDims A N B n wf) x idx (ix3 a e b) = x (ix3 a k b) := by
  unfold Host.gather
  refine congrArg x (funext fun i => Fin.ext ?_)
  have hb : ∀ q, (midDims A N B n wf).batchCoord (ix3 a e b) q = 0 := fun q => GatherDims.batchCoord_eq_zero _ _ _ List.not_mem_nil
  have s0 : (midDims A N B n wf).start (ix3 a e b) idx 0 = 0 := dif_neg (show ¬ (0 : Fin 3) ∈ [(1 : Fin 3)] by decide)
  have o0 : (midDims A N B n wf).offCoord (ix3 a e b) 0 = a.val := rfl
  have s1 : (midDims A N B n wf).start (ix3 a e b) idx 1 = k.val := by
    unfold GatherDims.start
    rw [dif_pos (show (1 : Fin 3) ∈ [(1 : Fin 3)] by decide)]
    have hsi : idx ((midDims A N B n wf).siIdx (ix3 a e b) ⟨List.idxOf (1 : Fin 3) (midDims A N B n wf).startIndexMap,
        List.idxOf_lt_length_iff.2 (List.mem_singleton.mpr rfl)⟩) = idx (ix2 e (0 : Fin 1)) := by
      refine congrArg idx (funext fun q => Fin.ext ?_)
      match q with
      | ⟨0, _⟩ => rfl
      | ⟨1, _⟩ => rfl
    rw [hsi, hk, StableHlo.Predicate.toInt_ofNat_small _ (by omega)]
    show min k.val (N - 1) = k.val
    omega
  have o1 : (midDims A N B n wf).offCoord (ix3 a e b) 1 = 0 := GatherDims.offCoord_eq_zero _ _ _ (fun h => ((GatherDims.mem_sKept _ _).mp h).1 (List.mem_singleton.mpr rfl))
  have s2 : (midDims A N B n wf).start (ix3 a e b) idx 2 = 0 := dif_neg (show ¬ (2 : Fin 3) ∈ [(1 : Fin 3)] by decide)
  have o2 : (midDims A N B n wf).offCoord (ix3 a e b) 2 = b.val := rfl
  match i with
  | ⟨0, _⟩ => exact sum_three s0 (hb 0) o0 (by first | exact Nat.zero_add _ | exact Nat.add_zero _)
  | ⟨1, _⟩ => exact sum_three s1 (hb 1) o1 (by first | exact Nat.zero_add _ | exact Nat.add_zero _)
  | ⟨2, _⟩ => exact sum_three s2 (hb 2) o2 (Nat.zero_add _)

/-- The dimension numbers of a gather along the last axis of a matrix. -/
abbrev colDims (A N n : Nat) (wf : GatherDims.WF ⟨2, ![A, N]⟩ ⟨2, ![n, 1]⟩ ⟨2, ![A, n]⟩ [0] [1] [] [1] [] 1 ![A, 1]) :
    GatherDims ⟨2, ![A, N]⟩ ⟨2, ![n, 1]⟩ ⟨2, ![A, n]⟩ where
  offsetDims := [0]
  collapsedSliceDims := [1]
  operandBatchingDims := []
  startIndicesBatchingDims := []
  startIndexMap := [1]
  indexVectorDim := 1
  sliceSizes := ![A, 1]
  wf := wf

/-- A gather along the last axis of a matrix reads the column that the index word names. -/
theorem gather_col {A N n : Nat} (wf) (x : (⟨2, ![A, N]⟩ : Shape).Idx → α) (idx : IVec ⟨2, ![n, 1]⟩ 32) (a : Fin A) (e : Fin n)
    (k : Fin N) (hN : N < 2 ^ 31) (hk : idx (ix2 e (0 : Fin 1)) = BitVec.ofNat 32 k.val) :
    Host.gather (colDims A N n wf) x idx (ix2 a e) = x (ix2 a k) := by
  unfold Host.gather
  refine congrArg x (funext fun i => Fin.ext ?_)
  have hb : ∀ q, (colDims A N n wf).batchCoord (ix2 a e) q = 0 := fun q => GatherDims.batchCoord_eq_zero _ _ _ List.not_mem_nil
  have s0 : (colDims A N n wf).start (ix2 a e) idx 0 = 0 := dif_neg (show ¬ (0 : Fin 2) ∈ [(1 : Fin 2)] by decide)
  have o0 : (colDims A N n wf).offCoord (ix2 a e) 0 = a.val := rfl
  have s1 : (colDims A N n wf).start (ix2 a e) idx 1 = k.val := by
    unfold GatherDims.start
    rw [dif_pos (show (1 : Fin 2) ∈ [(1 : Fin 2)] by decide)]
    have hsi : idx ((colDims A N n wf).siIdx (ix2 a e) ⟨List.idxOf (1 : Fin 2) (colDims A N n wf).startIndexMap,
        List.idxOf_lt_length_iff.2 (List.mem_singleton.mpr rfl)⟩) = idx (ix2 e (0 : Fin 1)) := by
      refine congrArg idx (funext fun q => Fin.ext ?_)
      match q with
      | ⟨0, _⟩ => rfl
      | ⟨1, _⟩ => rfl
    rw [hsi, hk, StableHlo.Predicate.toInt_ofNat_small _ (by omega)]
    show min k.val (N - 1) = k.val
    omega
  have o1 : (colDims A N n wf).offCoord (ix2 a e) 1 = 0 := GatherDims.offCoord_eq_zero _ _ _ (fun h => ((GatherDims.mem_sKept _ _).mp h).1 (List.mem_singleton.mpr rfl))
  match i with
  | ⟨0, _⟩ => exact sum_three s0 (hb 0) o0 (by first | exact Nat.zero_add _ | exact Nat.add_zero _)
  | ⟨1, _⟩ => exact sum_three s1 (hb 1) o1 (by first | exact Nat.zero_add _ | exact Nat.add_zero _)

/-- The dimension numbers of a gather along the first axis of a rank-3 array. -/
abbrev headDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- A gather along the first axis reads the slab that the index word names. -/
theorem gather_head {N A B n : Nat} (wf) (x : (⟨3, ![N, A, B]⟩ : Shape).Idx → α) (idx : IVec ⟨2, ![n, 1]⟩ 32) (e : Fin n) (a : Fin A) (b : Fin B)
    (k : Fin N) (hN : N < 2 ^ 31) (hk : idx (ix2 e (0 : Fin 1)) = BitVec.ofNat 32 k.val) :
    Host.gather (headDims N A B n wf) x idx (ix3 e a b) = x (ix3 k a b) := by
  unfold Host.gather
  refine congrArg x (funext fun i => Fin.ext ?_)
  have hb : ∀ q, (headDims N A B n wf).batchCoord (ix3 e a b) q = 0 := fun q => GatherDims.batchCoord_eq_zero _ _ _ List.not_mem_nil
  have s0 : (headDims N A B n wf).start (ix3 e a b) idx 0 = k.val := by
    unfold GatherDims.start
    rw [dif_pos (show (0 : Fin 3) ∈ [(0 : Fin 3)] by decide)]
    have hsi : idx ((headDims N A B n wf).siIdx (ix3 e a b) ⟨List.idxOf (0 : Fin 3) (headDims N A B n wf).startIndexMap,
        List.idxOf_lt_length_iff.2 (List.mem_singleton.mpr rfl)⟩) = idx (ix2 e (0 : Fin 1)) := by
      refine congrArg idx (funext fun q => Fin.ext ?_)
      match q with
      | ⟨0, _⟩ => rfl
      | ⟨1, _⟩ => rfl
    rw [hsi, hk, StableHlo.Predicate.toInt_ofNat_small _ (by omega)]
    show min k.val (N - 1) = k.val
    omega
  have o0 : (headDims N A B n wf).offCoord (ix3 e a b) 0 = 0 := GatherDims.offCoord_eq_zero _ _ _ (fun h => ((GatherDims.mem_sKept _ _).mp h).1 (List.mem_singleton.mpr rfl))
  have s1 : (headDims N A B n wf).start (ix3 e a b) idx 1 = 0 := dif_neg (show ¬ (1 : Fin 3) ∈ [(0 : Fin 3)] by decide)
  have o1 : (headDims N A B n wf).offCoord (ix3 e a b) 1 = a.val := rfl
  have s2 : (headDims N A B n wf).start (ix3 e a b) idx 2 = 0 := dif_neg (show ¬ (2 : Fin 3) ∈ [(0 : Fin 3)] by decide)
  have o2 : (headDims N A B n wf).offCoord (ix3 e a b) 2 = b.val := rfl
  match i with
  | ⟨0, _⟩ => exact sum_three s0 (hb 0) o0 (by first | exact Nat.zero_add _ | exact Nat.add_zero _)
  | ⟨1, _⟩ => exact sum_three s1 (hb 1) o1 (by first | exact Nat.zero_add _ | exact Nat.add_zero _)
  | ⟨2, _⟩ => exact sum_three s2 (hb 2) o2 (Nat.zero_add _)

end Gathers

/-! ## Accumulations by index words, read at an element -/

section Scatters

/-- The dimension numbers of a segment sum: one word names the slab that an update's slab is added to. -/
abbrev segDims (N A B n : Nat) (wf : ScatterDims.WF ⟨3, ![N, A, B]⟩ ⟨2, ![n, 1]⟩ ⟨3, ![n, A, B]⟩ [1, 2] [0] [0] 1) :
    ScatterDims ⟨3, ![N, A, B]⟩ ⟨2, ![n, 1]⟩ ⟨3, ![n, A, B]⟩ where
  updateWindowDims := [1, 2]
  insertedWindowDims := [0]
  scatterDimsToOperandDims := [0]
  indexVectorDim := 1
  wf := wf

/-- Where an update of a segment sum lands. -/
theorem seg_lands {N A B n : Nat} (wf) (idx : IVec ⟨2, ![n, 1]⟩ 32) (e : Fin n) (a' : Fin A) (b' : Fin B) (g : Fin N) (a : Fin A) (b : Fin B) :
    (segDims N A B n wf).resultIdx? (ix3 e a' b') idx = some (ix3 g a b)
      ↔ (idx (ix2 e (0 : Fin 1))).toInt = (g.val : Int) ∧ a' = a ∧ b' = b := by
  rw [resultIdx?_eq_some]
  have s0 : (segDims N A B n wf).start (ix3 e a' b') idx 0 = (idx (ix2 e (0 : Fin 1))).toInt := by
    unfold ScatterDims.start
    rw [dif_pos (show (0 : Fin 3) ∈ (segDims N A B n wf).scatterDimsToOperandDims from List.mem_singleton.mpr rfl)]
    refine congrArg (fun z => (idx z).toInt) (funext fun q => Fin.ext ?_)
    match q with
    | ⟨0, _⟩ => rfl
    | ⟨1, _⟩ => rfl
  have s1 : (segDims N A B n wf).start (ix3 e a' b') idx 1 = 0 := dif_neg (show ¬ (1 : Fin 3) ∈ [(0 : Fin 3)] by decide)
  have s2 : (segDims N A B n wf).start (ix3 e a' b') idx 2 = 0 := dif_neg (show ¬ (2 : Fin 3) ∈ [(0 : Fin 3)] by decide)
  have w0 : (segDims N A B n wf).window (ix3 e a' b') 0 = 0 := rfl
  have w1 : (segDims N A B n wf).window (ix3 e a' b') 1 = a'.val := rfl
  have w2 : (segDims N A B n wf).window (ix3 e a' b') 2 = b'.val := rfl
  constructor
  · intro h
    have h0 := h 0
    have h1 := h 1
    have h2 := h 2
    rw [s0, w0] at h0
    rw [s1, w1] at h1
    rw [s2, w2] at h2
    change _ = (g.val : Int) at h0
    change _ = (a.val : Int) at h1
    change _ = (b.val : Int) at h2
    exact ⟨by omega, Fin.ext (by omega), Fin.ext (by omega)⟩
  · rintro ⟨h0, rfl, rfl⟩ i
    match i with
    | ⟨0, _⟩ => exact (congrArg₂ (fun p q => p + (q : Int)) s0 (congrArg Nat.cast w0)).trans ((Int.add_zero _).trans h0)
    | ⟨1, _⟩ => exact (congrArg₂ (fun p q => p + (q : Int)) s1 (congrArg Nat.cast w1)).trans (Int.zero_add _)
    | ⟨2, _⟩ => exact (congrArg₂ (fun p q => p + (q : Int)) s2 (congrArg Nat.cast w2)).trans (Int.zero_add _)

/-- A segment sum at an element: the operand's element and the sum of the updates whose word names its slab. -/
theorem seg_sum {N A B n : Nat} (wf) (x : (⟨3, ![N, A, B]⟩ : Shape).Idx → EReal) (idx : IVec ⟨2, ![n, 1]⟩ 32)
    (upd : (⟨3, ![n, A, B]⟩ : Shape).Idx → EReal) (g : Fin N) (a : Fin A) (b : Fin B) :
    Ideal.hostScatterAdd (segDims N A B n wf) x idx upd (ix3 g a b)
      = x (ix3 g a b) + ∑ e : Fin n, if (idx (ix2 e (0 : Fin 1))).toInt = (g.val : Int) then upd (ix3 e a b) else 0 := by
  unfold Ideal.hostScatterAdd
  refine congrArg (x (ix3 g a b) + ·) ?_
  rw [← Finset.sum_filter]
  refine Finset.sum_nbij' (fun k => k 0) (fun e => ix3 e a b) ?_ ?_ ?_ ?_ ?_
  · intro k hk
    obtain ⟨e, a', b', rfl⟩ : ∃ e a' b', k = ix3 e a' b' := ⟨k 0, k 1, k 2, eq_ix3 k⟩
    exact Finset.mem_filter.2 ⟨Finset.mem_univ _, ((seg_lands wf idx e a' b' g a b).1 (Finset.mem_filter.1 hk).2).1⟩
  · intro e he
    exact Finset.mem_filter.2 ⟨Finset.mem_univ _, (seg_lands wf idx e a b g a b).2 ⟨(Finset.mem_filter.1 he).2, rfl, rfl⟩⟩
  · intro k hk
    obtain ⟨e, a', b', rfl⟩ : ∃ e a' b', k = ix3 e a' b' := ⟨k 0, k 1, k 2, eq_ix3 k⟩
    obtain ⟨-, rfl, rfl⟩ := (seg_lands wf idx e a' b' g a b).1 (Finset.mem_filter.1 hk).2
    rfl
  · intro e _; rfl
  · intro k hk
    obtain ⟨e, a', b', rfl⟩ : ∃ e a' b', k = ix3 e a' b' := ⟨k 0, k 1, k 2, eq_ix3 k⟩
    obtain ⟨-, rfl, rfl⟩ := (seg_lands wf idx e a' b' g a b).1 (Finset.mem_filter.1 hk).2
    rfl

/-- The dimension numbers of an accumulation of matrices, three words naming the entries on axes 0, 1 and 3. -/
abbrev tripDims (M N A O B n : Nat) (wf : ScatterDims.WF ⟨5, ![M, N, A, O, B]⟩ ⟨2, ![n, 3]⟩ ⟨3, ![n, A, B]⟩ [1, 2] [0, 1, 3] [0, 1, 3] 1) :
    ScatterDims ⟨5, ![M, N, A, O, B]⟩ ⟨2, ![n, 3]⟩ ⟨3, ![n, A, B]⟩ where
  updateWindowDims := [1, 2]
  insertedWindowDims := [0, 1, 3]
  scatterDimsToOperandDims := [0, 1, 3]
  indexVectorDim := 1
  wf := wf

/-- Where an update of an accumulation of matrices lands. -/
theorem trip_lands {M N A O B n : Nat} (wf) (idx : IVec ⟨2, ![n, 3]⟩ 32) (e : Fin n) (a' : Fin A) (b' : Fin B)
    (p : Fin M) (q : Fin N) (a : Fin A) (o : Fin O) (b : Fin B) :
    (tripDims M N A O B n wf).resultIdx? (ix3 e a' b') idx = some (ix5 p q a o b)
      ↔ ((idx (ix2 e (0 : Fin 3))).toInt = (p.val : Int) ∧ (idx (ix2 e (1 : Fin 3))).toInt = (q.val : Int) ∧ (idx (ix2 e (2 : Fin 3))).toInt = (o.val : Int))
        ∧ a' = a ∧ b' = b := by
  rw [resultIdx?_eq_some]
  have s0 : (tripDims M N A O B n wf).start (ix3 e a' b') idx 0 = (idx (ix2 e (0 : Fin 3))).toInt := by
    unfold ScatterDims.start
    rw [dif_pos (show (0 : Fin 5) ∈ [(0 : Fin 5), 1, 3] by decide)]
    refine congrArg (fun z => (idx z).toInt) (funext fun q => Fin.ext ?_)
    match q with
    | ⟨0, _⟩ => rfl
    | ⟨1, _⟩ => rfl
  have s1 : (tripDims M N A O B n wf).start (ix3 e a' b') idx 1 = (idx (ix2 e (1 : Fin 3))).toInt := by
    unfold ScatterDims.start
    rw [dif_pos (show (1 : Fin 5) ∈ [(0 : Fin 5), 1, 3] by decide)]
    refine congrArg (fun z => (idx z).toInt) (funext fun q => Fin.ext ?_)
    match q with
    | ⟨0, _⟩ => rfl
    | ⟨1, _⟩ => rfl
  have s2 : (tripDims M N A O B n wf).start (ix3 e a' b') idx 2 = 0 := dif_neg (show ¬ (2 : Fin 5) ∈ [(0 : Fin 5), 1, 3] by decide)
  have s3 : (tripDims M N A O B n wf).start (ix3 e a' b') idx 3 = (idx (ix2 e (2 : Fin 3))).toInt := by
    unfold ScatterDims.start
    rw [dif_pos (show (3 : Fin 5) ∈ [(0 : Fin 5), 1, 3] by decide)]
    refine congrArg (fun z => (idx z).toInt) (funext fun q => Fin.ext ?_)
    match q with
    | ⟨0, _⟩ => rfl
    | ⟨1, _⟩ => rfl
  have s4 : (tripDims M N A O B n wf).start (ix3 e a' b') idx 4 = 0 := dif_neg (show ¬ (4 : Fin 5) ∈ [(0 : Fin 5), 1, 3] by decide)
  have w0 : (tripDims M N A O B n wf).window (ix3 e a' b') 0 = 0 := rfl
  have w1 : (tripDims M N A O B n wf).window (ix3 e a' b') 1 = 0 := rfl
  have w2 : (tripDims M N A O B n wf).window (ix3 e a' b') 2 = a'.val := rfl
  have w3 : (tripDims M N A O B n wf).window (ix3 e a' b') 3 = 0 := rfl
  have w4 : (tripDims M N A O B n wf).window (ix3 e a' b') 4 = b'.val := rfl
  constructor
  · intro h
    have h0 := h 0
    have h1 := h 1
    have h2 := h 2
    have h3 := h 3
    have h4 := h 4
    rw [s0, w0] at h0
    rw [s1, w1] at h1
    rw [s2, w2] at h2
    rw [s3, w3] at h3
    rw [s4, w4] at h4
    change _ = (p.val : Int) at h0
    change _ = (q.val : Int) at h1
    change _ = (a.val : Int) at h2
    change _ = (o.val : Int) at h3
    change _ = (b.val : Int) at h4
    exact ⟨⟨by omega, by omega, by omega⟩, Fin.ext (by omega), Fin.ext (by omega)⟩
  · rintro ⟨⟨h0, h1, h3⟩, rfl, rfl⟩ i
    match i with
    | ⟨0, _⟩ => exact (congrArg₂ (fun p q => p + (q : Int)) s0 (congrArg Nat.cast w0)).trans ((Int.add_zero _).trans h0)
    | ⟨1, _⟩ => exact (congrArg₂ (fun p q => p + (q : Int)) s1 (congrArg Nat.cast w1)).trans ((Int.add_zero _).trans h1)
    | ⟨2, _⟩ => exact (congrArg₂ (fun p q => p + (q : Int)) s2 (congrArg Nat.cast w2)).trans (Int.zero_add _)
    | ⟨3, _⟩ => exact (congrArg₂ (fun p q => p + (q : Int)) s3 (congrArg Nat.cast w3)).trans ((Int.add_zero _).trans h3)
    | ⟨4, _⟩ => exact (congrArg₂ (fun p q => p + (q : Int)) s4 (congrArg Nat.cast w4)).trans (Int.zero_add _)

/-- An accumulation of matrices at an element: the operand's element and the sum of the updates whose words name it. -/
theorem trip_sum {M N A O B n : Nat} (wf) (x : (⟨5, ![M, N, A, O, B]⟩ : Shape).Idx → EReal) (idx : IVec ⟨2, ![n, 3]⟩ 32)
    (upd : (⟨3, ![n, A, B]⟩ : Shape).Idx → EReal) (p : Fin M) (q : Fin N) (a : Fin A) (o : Fin O) (b : Fin B) :
    Ideal.hostScatterAdd (tripDims M N A O B n wf) x idx upd (ix5 p q a o b)
      = x (ix5 p q a o b) + ∑ e : Fin n, if (idx (ix2 e (0 : Fin 3))).toInt = (p.val : Int) ∧ (idx (ix2 e (1 : Fin 3))).toInt = (q.val : Int)
          ∧ (idx (ix2 e (2 : Fin 3))).toInt = (o.val : Int) then upd (ix3 e a b) else 0 := by
  unfold Ideal.hostScatterAdd
  refine congrArg (x (ix5 p q a o b) + ·) ?_
  rw [← Finset.sum_filter]
  refine Finset.sum_nbij' (fun k => k 0) (fun e => ix3 e a b) ?_ ?_ ?_ ?_ ?_
  · intro k hk
    obtain ⟨e, a', b', rfl⟩ : ∃ e a' b', k = ix3 e a' b' := ⟨k 0, k 1, k 2, eq_ix3 k⟩
    exact Finset.mem_filter.2 ⟨Finset.mem_univ _, ((trip_lands wf idx e a' b' p q a o b).1 (Finset.mem_filter.1 hk).2).1⟩
  · intro e he
    exact Finset.mem_filter.2 ⟨Finset.mem_univ _, (trip_lands wf idx e a b p q a o b).2 ⟨(Finset.mem_filter.1 he).2, rfl, rfl⟩⟩
  · intro k hk
    obtain ⟨e, a', b', rfl⟩ : ∃ e a' b', k = ix3 e a' b' := ⟨k 0, k 1, k 2, eq_ix3 k⟩
    obtain ⟨-, rfl, rfl⟩ := (trip_lands wf idx e a' b' p q a o b).1 (Finset.mem_filter.1 hk).2
    rfl
  · intro e _; rfl
  · intro k hk
    obtain ⟨e, a', b', rfl⟩ : ∃ e a' b', k = ix3 e a' b' := ⟨k 0, k 1, k 2, eq_ix3 k⟩
    obtain ⟨-, rfl, rfl⟩ := (trip_lands wf idx e a' b' p q a o b).1 (Finset.mem_filter.1 hk).2
    rfl

/-- The dimension numbers of a write of a whole block into a longer middle axis, one word for the place. -/
abbrev padDims (A N B m : Nat) (wf : ScatterDims.WF ⟨3, ![A, N, B]⟩ ⟨1, ![1]⟩ ⟨3, ![A, m, B]⟩ [0, 1, 2] [] [1] 0) :
    ScatterDims ⟨3, ![A, N, B]⟩ ⟨1, ![1]⟩ ⟨3, ![A, m, B]⟩ where
  updateWindowDims := [0, 1, 2]
  insertedWindowDims := []
  scatterDimsToOperandDims := [1]
  indexVectorDim := 0
  wf := wf

/-- A block written at place zero of a longer middle axis is read back inside it. -/
theorem pad_read {α : Type} {A N B m : Nat} (wf) (x : (⟨3, ![A, N, B]⟩ : Shape).Idx → α) (idx : IVec ⟨1, ![1]⟩ 32)
    (upd : (⟨3, ![A, m, B]⟩ : Shape).Idx → α) (hidx : idx (ix1 (0 : Fin 1)) = 0#32) (a : Fin A) (r : Fin m) (r' : Fin N) (hr : r'.val = r.val) (b : Fin B) :
    Host.scatter (padDims A N B m wf) (fun _ v => v) x idx upd (ix3 a r' b) = upd (ix3 a r b) := by
  have lands : ∀ k : (⟨3, ![A, m, B]⟩ : Shape).Idx, (padDims A N B m wf).resultIdx? k idx = some (ix3 a r' b) ↔ k = ix3 a r b := by
    intro k
    rw [resultIdx?_eq_some]
    have s0 : (padDims A N B m wf).start k idx 0 = 0 := dif_neg (show ¬ (0 : Fin 3) ∈ [(1 : Fin 3)] by decide)
    have s1 : (padDims A N B m wf).start k idx 1 = 0 := by
      unfold ScatterDims.start
      rw [dif_pos (show (1 : Fin 3) ∈ [(1 : Fin 3)] by decide)]
      refine (congrArg (fun z => (idx z).toInt) (show _ = ix1 (0 : Fin 1) from funext fun q => Fin.ext ?_)).trans ?_
      · match q with
        | ⟨0, _⟩ => rfl
      · show (idx (ix1 (0 : Fin 1))).toInt = 0
        rw [hidx]; decide
    have s2 : (padDims A N B m wf).start k idx 2 = 0 := dif_neg (show ¬ (2 : Fin 3) ∈ [(1 : Fin 3)] by decide)
    have w0 : (padDims A N B m wf).window k 0 = (k 0).val := rfl
    have w1 : (padDims A N B m wf).window k 1 = (k 1).val := rfl
    have w2 : (padDims A N B m wf).window k 2 = (k 2).val := rfl
    constructor
    · intro h
      have h0 := h 0
      have h1 := h 1
      have h2 := h 2
      rw [s0, w0] at h0
      rw [s1, w1] at h1
      rw [s2, w2] at h2
      change _ = (a.val : Int) at h0
      change _ = (r'.val : Int) at h1
      change _ = (b.val : Int) at h2
      have e0 : k 0 = a := Fin.ext (by omega)
      have e1 : k 1 = r := Fin.ext (by omega)
      have e2 : k 2 = b := Fin.ext (by omega)
      rw [eq_ix3 k, e0, e1, e2]
      rfl
    · rintro rfl i
      match i with
      | ⟨0, _⟩ => exact (congrArg₂ (fun p q => p + (q : Int)) s0 (congrArg Nat.cast w0)).trans (Int.zero_add _)
      | ⟨1, _⟩ => exact (congrArg₂ (fun p q => p + (q : Int)) s1 (congrArg Nat.cast w1)).trans ((Int.zero_add _).trans (congrArg Nat.cast hr.symm))
      | ⟨2, _⟩ => exact (congrArg₂ (fun p q => p + (q : Int)) s2 (congrArg Nat.cast w2)).trans (Int.zero_add _)
  exact scatter_set_hit _ x idx upd _ _ (fun k hk => congrArg upd ((lands k).1 hk)) (ix3 a r b) ((lands _).2 rfl)

end Scatters

end Cert.Spec

end
-- ==== Proof.Real.lean ====
/-
  The value that both programs compute, over the real numbers, and the two orders of summation that give it.
-/
module

public import Mathlib.Data.EReal.Operations
public import Mathlib.Algebra.BigOperators.Ring.Finset
public import Mathlib.Algebra.BigOperators.Fin

@[expose] public section

noncomputable section

namespace Cert.Spec

/-- A finite sum of real numbers is the same sum taken in the extended real numbers. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A real number or zero, by cases, is the same in the extended real numbers. -/
theorem coe_ite (p : Prop) [Decidable p] (r : ℝ) : ((if p then r else 0 : ℝ) : EReal) = if p then (r : EReal) else 0 := by
  split_ifs
  · rfl
  · exact EReal.coe_zero

variable (xr : Fin 32768 → Fin 9 → Fin 16 → ℝ) (shr : Fin 32768 → Fin 9 → ℝ) (wr : Fin 15 → Fin 16 → Fin 16 → ℝ) (cgr : Fin 137 → ℝ)
  (m1 m2 : Fin 137 → Fin 9) (s1 : Fin 137 → Fin 51) (li : Fin 51 → Fin 15) (s2 : Fin 51 → Fin 9)

/-- The result at row `n`, component `o`, channel `c`: over the Clebsch–Gordan entries whose path ends in `o`, the
    entry times the harmonic times the row of the input through the path's weights. -/
def G (n : Fin 32768) (o : Fin 9) (c : Fin 16) : ℝ :=
  ∑ e, if s2 (s1 e) = o then cgr e * shr n (m2 e) * ∑ i, xr n (m1 e) i * wr (li (s1 e)) i c else 0

/-- One segment of the reference's first sum. -/
def seg (g : Fin 51) (n : Fin 32768) (i : Fin 16) : ℝ :=
  ∑ e, if s1 e = g then cgr e * shr n (m2 e) * xr n (m1 e) i else 0

/-- The reference's order: segments first, then the weights, then the segments of segments. -/
theorem by_segments (n : Fin 32768) (o : Fin 9) (c : Fin 16) :
    ∑ g, (if s2 g = o then ∑ i, wr (li g) i c * seg xr shr cgr m1 m2 s1 g n i else 0) = G xr shr wr cgr m1 m2 s1 li s2 n o c := by
  have h : ∀ g, (if s2 g = o then ∑ i, wr (li g) i c * seg xr shr cgr m1 m2 s1 g n i else 0)
      = ∑ e, if s1 e = g then (if s2 g = o then cgr e * shr n (m2 e) * ∑ i, xr n (m1 e) i * wr (li g) i c else 0) else 0 := by
    intro g
    by_cases hg : s2 g = o
    · simp only [if_pos hg, seg, Finset.mul_sum]
      rw [Finset.sum_comm]
      refine Finset.sum_congr rfl fun e _ => ?_
      by_cases he : s1 e = g
      · simp only [if_pos he]
        exact Finset.sum_congr rfl fun i _ => by ring
      · simp only [if_neg he, mul_zero, Finset.sum_const_zero]
    · simp only [if_neg hg, ite_self, Finset.sum_const_zero]
  rw [Finset.sum_congr rfl fun g _ => h g, Finset.sum_comm]
  refine Finset.sum_congr rfl fun e _ => ?_
  rw [Finset.sum_ite_eq, if_pos (Finset.mem_univ _)]

/-- One entry of the kernel's combined matrix: rows are (harmonic, component, channel), columns (component, channel). -/
def comb (q p : Fin 9) (i : Fin 16) (o : Fin 9) (c : Fin 16) : ℝ :=
  ∑ e, if m2 e = q ∧ m1 e = p ∧ s2 (s1 e) = o then cgr e * wr (li (s1 e)) i c else 0

/-- The kernel's order: the products of harmonic and input, through the combined matrix. -/
theorem by_products (n : Fin 32768) (o : Fin 9) (c : Fin 16) :
    ∑ q, ∑ p, ∑ i, (xr n p i * shr n q) * comb wr cgr m1 m2 s1 li s2 q p i o c = G xr shr wr cgr m1 m2 s1 li s2 n o c := by
  have h : ∀ q p i, (xr n p i * shr n q) * comb wr cgr m1 m2 s1 li s2 q p i o c
      = ∑ e, if m2 e = q then (if m1 e = p then (if s2 (s1 e) = o then cgr e * shr n q * (xr n p i * wr (li (s1 e)) i c) else 0) else 0) else 0 := by
    intro q p i
    rw [comb, Finset.mul_sum]
    refine Finset.sum_congr rfl fun e _ => ?_
    by_cases hq : m2 e = q
    · by_cases hp : m1 e = p
      · by_cases ho : s2 (s1 e) = o
        · simp only [if_pos hq, if_pos hp, if_pos ho, if_pos (And.intro hq (And.intro hp ho))]; ring
        · simp only [ho, and_false, if_false, mul_zero, ite_self]
      · simp only [hp, false_and, and_false, if_false, mul_zero, ite_self]
    · simp only [hq, false_and, if_false, mul_zero]
  have h1 : ∀ q, ∑ p, ∑ i, (xr n p i * shr n q) * comb wr cgr m1 m2 s1 li s2 q p i o c
      = ∑ e, if m2 e = q then ∑ i, (if s2 (s1 e) = o then cgr e * shr n q * (xr n (m1 e) i * wr (li (s1 e)) i c) else 0) else 0 := by
    intro q
    have h2 : ∀ p, ∑ i, (xr n p i * shr n q) * comb wr cgr m1 m2 s1 li s2 q p i o c
        = ∑ e, if m1 e = p then (if m2 e = q then ∑ i, (if s2 (s1 e) = o then cgr e * shr n q * (xr n p i * wr (li (s1 e)) i c) else 0) else 0) else 0 := by
      intro p
      rw [Finset.sum_congr rfl fun i _ => h q p i, Finset.sum_comm]
      refine Finset.sum_congr rfl fun e _ => ?_
      by_cases hq : m2 e = q
      · by_cases hp : m1 e = p
        · simp only [if_pos hq, if_pos hp]
        · simp only [hp, if_false, ite_self, Finset.sum_const_zero]
      · simp only [hq, if_false, ite_self, Finset.sum_const_zero]
    rw [Finset.sum_congr rfl fun p _ => h2 p, Finset.sum_comm]
    refine Finset.sum_congr rfl fun e _ => ?_
    rw [Finset.sum_ite_eq, if_pos (Finset.mem_univ _)]
  rw [Finset.sum_congr rfl fun q _ => h1 q, Finset.sum_comm]
  refine Finset.sum_congr rfl fun e _ => ?_
  rw [Finset.sum_ite_eq, if_pos (Finset.mem_univ _)]
  by_cases ho : s2 (s1 e) = o
  · simp only [if_pos ho, Finset.mul_sum]
  · simp only [if_neg ho, Finset.sum_const_zero]

end Cert.Spec

end
-- ==== Proof.KernelHost.lean ====
/-
  The operations before the region at the real numbers: the combined matrix, one operation at a time, and its entries.
-/
module

public import proofs.«01_k».proof.Proof.Gen.Kernel.Frame
public import proofs.«01_k».proof.Proof.Spec
public import proofs.«01_k».proof.Proof.Real
public import Idealize.ShloMosaic.Lib.Pipeline.Value
public import Idealize.ShloMosaic.Lib.StableHlo.RunRead

@[expose] public section

set_option maxRecDepth 16384

noncomputable section

namespace Cert.Kernel.Host

open Cert.Kernel Cert.Kernel.Gen Cert.Spec
open Idealize.ShloMosaic Idealize.ShloMosaic.TcCoe Idealize.ShloMosaic.ValueIdx Idealize.ShloMosaic.Routing

/-! ## The operations -/

section Ops
variable {F : FTy → Type} [FloatOps F]

/-- Index words with the negative ones wrapped by `n`. -/
def wrapped (n : BitVec 32) (x : IVec S137 32) : IVec S137 32 :=
  select (cmpi .slt x (broadcastInDim S137 ![] bcast_S_S137 (constantI S_ 32 0#32))) (addi x (broadcastInDim S137 ![] bcast_S_S137 (constantI S_ 32 n))) x
/-- Index words as a column. -/
def column (x : IVec S137 32) : IVec S137x1 32 := broadcastInDim S137x1 ![0] bcast_S137_S137x1_0 x
/-- The table's words at each entry's path. -/
def picked (t : IVec S51 32) (s : IVec S137 32) : IVec S137 32 := Host.gather gather_S51_S137x1_S137_n_0_n_n_0_1_1 t (column (wrapped 51#32 s))
/-- Each entry's coefficient times the weights of its path. -/
def scaled (w : Vec F S1x15x16x16 .f32) (cg : Vec F S137 .f32) (s : IVec S137 32) (l : IVec S51 32) : Vec F S137x16x16 .f32 :=
  mulf (broadcastInDim S137x16x16 ![0, 1, 2] bcast_S137x1x1_S137x16x16_0_1_2 (broadcastInDim S137x1x1 ![0] bcast_S137_S137x1x1_0 cg))
    (Host.gather gather_S15x16x16_S137x1_S137x16x16_12_0_n_n_0_1_11616 (shapeCast S15x16x16 w shapeCasts_S1x15x16x16_S15x16x16) (column (wrapped 15#32 (picked l s))))
/-- The three words of each entry: harmonic, input component, output component. -/
def triples (p1 p2 s : IVec S137 32) (o : IVec S51 32) : IVec S137x3 32 :=
  concatenate S137x3 1 [⟨S137x1, column (wrapped 9#32 p2)⟩, ⟨S137x1, column (wrapped 9#32 p1)⟩, ⟨S137x1, column (wrapped 9#32 (picked o s))⟩]
    concatenates_S137x1_S137x1_S137x1_S137x3_d1
/-- The entries accumulated. -/
def gathered (w : Vec F S1x15x16x16 .f32) (cg : Vec F S137 .f32) (p1 p2 s : IVec S137 32) (l o : IVec S51 32) : Vec F S9x9x16x9x16 .f32 :=
  Host.scatterAdd scatter_S9x9x16x9x16_S137x3_S137x16x16_12_013_013_1 (broadcastInDim S9x9x16x9x16 ![] bcast_S_S9x9x16x9x16 (constant S_ .f32 0x00000000#32))
    (triples p1 p2 s o) (scaled w cg s l)
/-- The same as nine blocks of 144 rows, each padded to 256 rows. -/
def padded (w : Vec F S1x15x16x16 .f32) (cg : Vec F S137 .f32) (p1 p2 s : IVec S137 32) (l o : IVec S51 32) : Vec F S9x256x144 .f32 :=
  Host.scatter scatter_S9x256x144_S1_S9x144x144_012_n_1_0 (fun _ b => b) (broadcastInDim S9x256x144 ![] bcast_S_S9x256x144 (constant S_ .f32 0x00000000#32))
    (broadcastInDim S1 ![] bcast_S_S1 (constantI S_ 32 0#32)) (shapeCast S9x144x144 (gathered w cg p1 p2 s l o) shapeCasts_S9x9x16x9x16_S9x144x144)
/-- The combined matrix. -/
def combined (w : Vec F S1x15x16x16 .f32) (cg : Vec F S137 .f32) (p1 p2 s : IVec S137 32) (l o : IVec S51 32) : Vec F S2304x144 .bf16 :=
  truncf .bf16 (shapeCast S2304x144 (padded w cg p1 p2 s l o) shapeCasts_S9x256x144_S2304x144) bitsLt_bf16_f32

variable (m : (ℓ : Loc nD τ sig) → Buf (Elt F) ℓ)

/-- What the region finds as its rows: the input, each row flat. -/
theorem V_rows (c : Dev nD) : V m c main_v52 = shapeCast S32768x144 (m ((c : Thread nD τ).loc main_arg0)) shapeCasts_S32768x9x16_S32768x144 := by
  show StableHlo.after (List.flatten [hostOps0]) (fun b => m (c, b)) (Proc.devRef .tc main_v52) = _
  rw [List.flatten_cons, List.flatten_nil, List.append_nil]
  after_reads_simp
  all_goals rfl

/-- What the first column of the entries' words holds. -/
theorem words_harmonic (c : Dev nD) : StableHlo.upto hostOps0 (fun b => m (c, b)) 57 (Proc.devRef .tc main_v41) = column (wrapped 9#32 (m ((c : Thread nD τ).loc main_arg5))) := by
  after_reads_simp
  unfold column wrapped
  rfl

/-- What the second column of the entries' words holds. -/
theorem words_input (c : Dev nD) : StableHlo.upto hostOps0 (fun b => m (c, b)) 57 (Proc.devRef .tc main_v42) = column (wrapped 9#32 (m ((c : Thread nD τ).loc main_arg4))) := by
  after_reads_simp
  unfold column wrapped
  rfl

/-- What the third column of the entries' words holds. -/
theorem words_output (c : Dev nD) : StableHlo.upto hostOps0 (fun b => m (c, b)) 57 (Proc.devRef .tc main_v43) = column (wrapped 9#32 (picked (m ((c : Thread nD τ).loc main_arg8)) (m ((c : Thread nD τ).loc main_arg6)))) := by
  after_reads_simp
  unfold column wrapped picked column wrapped
  rfl

/-- What the region finds as its matrix: the combined matrix of the arguments. -/
theorem V_matrix (c : Dev nD) : V m c main_v51 = combined (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) := by
  show StableHlo.after (List.flatten [hostOps0]) (fun b => m (c, b)) (Proc.devRef .tc main_v51) = _
  rw [List.flatten_cons, List.flatten_nil, List.append_nil]
  after_reads_simp
  dsimp only [Matrix.cons_val]
  rw [words_harmonic, words_input, words_output]
  unfold combined padded gathered scaled triples picked wrapped column
  rfl

end Ops

/-! ## Their entries -/

/-- Small words are not wrapped. -/
theorem wrapped_at (n : BitVec 32) (x : IVec S137 32) (e : Fin 137) (k : Nat) (hk : k < 2 ^ 31) (h : x (ix1 e) = BitVec.ofNat 32 k) :
    wrapped n x (ix1 e) = BitVec.ofNat 32 k := by
  have hw : wrapped n x (ix1 e) = Scalar.select (IntOp.cmpi .slt (x (ix1 e)) 0#32) (IntOp.addi (x (ix1 e)) n) (x (ix1 e)) := rfl
  rw [hw, h]
  exact wrap_small k hk n

/-- A column's entry. -/
theorem column_at (x : IVec S137 32) (e : Fin 137) (z : Fin 1) : column x (ix2 e z) = x (ix1 e) :=
  broadcastInDim_apply _ bcast_S137_S137x1_0 x (ix2 e z) (ix1 e) (fun a => match a with
    | ⟨0, _⟩ => by show e.val = if (137 : Nat) = 1 then 0 else e.val; rw [if_neg (by decide)])

/-- The table's word at an entry's path. -/
theorem picked_at {N : Nat} (hN : N < 2 ^ 31) (t : IVec S51 32) (s : IVec S137 32) (s1 : Fin 137 → Fin 51) (u : Fin 51 → Fin N)
    (hs : ∀ e, s (ix1 e) = BitVec.ofNat 32 (s1 e).val) (ht : ∀ g, t (ix1 g) = BitVec.ofNat 32 (u g).val) (e : Fin 137) :
    picked t s (ix1 e) = BitVec.ofNat 32 (u (s1 e)).val := by
  refine (gather_take1 gather_S51_S137x1_S137_n_0_n_n_0_1_1 rfl rfl rfl rfl t (column (wrapped 51#32 s)) e (s1 e) ?_ (by decide)).trans (ht _)
  exact (column_at _ e 0).trans (wrapped_at _ _ _ _ (by have := (s1 e).isLt; omega) (hs e))

section Real
variable (x2 : Vec Ideal S1x15x16x16 .f32) (x3 : Vec Ideal S137 .f32) (x4 x5 x6 : IVec S137 32) (x7 x8 : IVec S51 32)
  (wr : Fin 15 → Fin 16 → Fin 16 → ℝ) (cgr : Fin 137 → ℝ)
  (m1 m2 : Fin 137 → Fin 9) (s1 : Fin 137 → Fin 51) (li : Fin 51 → Fin 15) (s2 : Fin 51 → Fin 9)

/-- One entry's scaled weights. -/
theorem scaled_at (h2 : ∀ l i c, x2 (ix4 (0 : Fin 1) l i c) = ((wr l i c : ℝ) : EReal)) (h3 : ∀ e, x3 (ix1 e) = ((cgr e : ℝ) : EReal))
    (h6 : ∀ e, x6 (ix1 e) = BitVec.ofNat 32 (s1 e).val) (h7 : ∀ g, x7 (ix1 g) = BitVec.ofNat 32 (li g).val) (e : Fin 137) (i c : Fin 16) :
    scaled x2 x3 x6 x7 (ix3 e i c) = ((cgr e * wr (li (s1 e)) i c : ℝ) : EReal) := by
  have hc : broadcastInDim S137x16x16 ![0, 1, 2] bcast_S137x1x1_S137x16x16_0_1_2 (broadcastInDim S137x1x1 ![0] bcast_S137_S137x1x1_0 x3) (ix3 e i c) = ((cgr e : ℝ) : EReal) := by
    rw [broadcastInDim_apply _ bcast_S137x1x1_S137x16x16_0_1_2 _ (ix3 e i c) (ix3 e (0 : Fin 1) (0 : Fin 1)) (fun a => match a with
      | ⟨0, _⟩ => by show e.val = if (137 : Nat) = 1 then 0 else e.val; rw [if_neg (by decide)]
      | ⟨1, _⟩ => by show 0 = if (1 : Nat) = 1 then 0 else i.val; rw [if_pos rfl]
      | ⟨2, _⟩ => by show 0 = if (1 : Nat) = 1 then 0 else c.val; rw [if_pos rfl]),
      broadcastInDim_apply _ bcast_S137_S137x1x1_0 x3 (ix3 e (0 : Fin 1) (0 : Fin 1)) (ix1 e) (fun a => match a with
      | ⟨0, _⟩ => by show e.val = if (137 : Nat) = 1 then 0 else e.val; rw [if_neg (by decide)])]
    exact h3 e
  have hg : Host.gather gather_S15x16x16_S137x1_S137x16x16_12_0_n_n_0_1_11616 (shapeCast S15x16x16 x2 shapeCasts_S1x15x16x16_S15x16x16)
      (column (wrapped 15#32 (picked x7 x6))) (ix3 e i c) = ((wr (li (s1 e)) i c : ℝ) : EReal) := by
    refine (gather_head _ _ (column (wrapped 15#32 (picked x7 x6))) e i c (li (s1 e)) (by decide) ?_).trans ?_
    · exact (column_at _ e 0).trans (wrapped_at _ _ _ _ (by have := (li (s1 e)).isLt; omega) (picked_at (by decide) x7 x6 s1 li h6 h7 e))
    · refine (shapeCast_apply x2 shapeCasts_S1x15x16x16_S15x16x16 (ix3 (li (s1 e)) i c) (ix4 (0 : Fin 1) (li (s1 e)) i c) ?_).trans (h2 _ _ _)
      rewrite [Shape.rowMajor_val_four, Shape.rowMajor_val_three]
      show ((0 * 15 + (li (s1 e)).val) * 16 + i.val) * 16 + c.val = ((li (s1 e)).val * 16 + i.val) * 16 + c.val
      omega
  refine (congrArg₂ (fun p q : EReal => p * q) hc hg).trans ?_
  exact (EReal.coe_mul _ _).symm

/-- The three words of an entry. -/
theorem triples_at (h4 : ∀ e, x4 (ix1 e) = BitVec.ofNat 32 (m1 e).val) (h5 : ∀ e, x5 (ix1 e) = BitVec.ofNat 32 (m2 e).val)
    (h6 : ∀ e, x6 (ix1 e) = BitVec.ofNat 32 (s1 e).val) (h8 : ∀ g, x8 (ix1 g) = BitVec.ofNat 32 (s2 g).val) (e : Fin 137) :
    triples x4 x5 x6 x8 (ix2 e (0 : Fin 3)) = BitVec.ofNat 32 (m2 e).val ∧ triples x4 x5 x6 x8 (ix2 e (1 : Fin 3)) = BitVec.ofNat 32 (m1 e).val
      ∧ triples x4 x5 x6 x8 (ix2 e (2 : Fin 3)) = BitVec.ofNat 32 (s2 (s1 e)).val := by
  refine ⟨?_, ?_, ?_⟩
  · refine (concatenate_apply_piece 1 [⟨S137x1, column (wrapped 9#32 x5)⟩, ⟨S137x1, column (wrapped 9#32 x4)⟩, ⟨S137x1, column (wrapped 9#32 (picked x8 x6))⟩] concatenates_S137x1_S137x1_S137x1_S137x3_d1 (ix2 e (0 : Fin 3)) 0 (by show 0 < 3; decide) S137x1 _ rfl rfl 0 rfl (ix2 e (0 : Fin 1)) ?_ rfl).trans ?_
    · intro b hb
      match b with
      | ⟨0, _⟩ => rfl
      | ⟨1, _⟩ => exact absurd rfl hb
    · exact (column_at _ e 0).trans (wrapped_at _ _ _ _ (by have := (m2 e).isLt; omega) (h5 e))
  · refine (concatenate_apply_piece 1 [⟨S137x1, column (wrapped 9#32 x5)⟩, ⟨S137x1, column (wrapped 9#32 x4)⟩, ⟨S137x1, column (wrapped 9#32 (picked x8 x6))⟩] concatenates_S137x1_S137x1_S137x1_S137x3_d1 (ix2 e (1 : Fin 3)) 1 (by show 1 < 3; decide) S137x1 _ rfl rfl 1 rfl (ix2 e (0 : Fin 1)) ?_ rfl).trans ?_
    · intro b hb
      match b with
      | ⟨0, _⟩ => rfl
      | ⟨1, _⟩ => exact absurd rfl hb
    · exact (column_at _ e 0).trans (wrapped_at _ _ _ _ (by have := (m1 e).isLt; omega) (h4 e))
  · refine (concatenate_apply_piece 1 [⟨S137x1, column (wrapped 9#32 x5)⟩, ⟨S137x1, column (wrapped 9#32 x4)⟩, ⟨S137x1, column (wrapped 9#32 (picked x8 x6))⟩] concatenates_S137x1_S137x1_S137x1_S137x3_d1 (ix2 e (2 : Fin 3)) 2 (by show 2 < 3; decide) S137x1 _ rfl rfl 2 rfl (ix2 e (0 : Fin 1)) ?_ rfl).trans ?_
    · intro b hb
      match b with
      | ⟨0, _⟩ => rfl
      | ⟨1, _⟩ => exact absurd rfl hb
    · exact (column_at _ e 0).trans (wrapped_at _ _ _ _ (by have := (s2 (s1 e)).isLt; omega) (picked_at (by decide) x8 x6 s1 s2 h6 h8 e))

/-- A word that is a small number is that number and no other. -/
theorem small_eq {N : Nat} (hN : N < 2 ^ 31) (k g : Fin N) : (BitVec.ofNat 32 k.val).toInt = (g.val : Int) ↔ k = g := by
  rw [StableHlo.Predicate.toInt_ofNat_small _ (by have := k.isLt; omega)]
  exact ⟨fun h => Fin.ext (by omega), fun h => by rw [h]⟩

/-- One element of the accumulated entries. -/
theorem gathered_at (h2 : ∀ l i c, x2 (ix4 (0 : Fin 1) l i c) = ((wr l i c : ℝ) : EReal)) (h3 : ∀ e, x3 (ix1 e) = ((cgr e : ℝ) : EReal))
    (h4 : ∀ e, x4 (ix1 e) = BitVec.ofNat 32 (m1 e).val) (h5 : ∀ e, x5 (ix1 e) = BitVec.ofNat 32 (m2 e).val)
    (h6 : ∀ e, x6 (ix1 e) = BitVec.ofNat 32 (s1 e).val) (h7 : ∀ g, x7 (ix1 g) = BitVec.ofNat 32 (li g).val) (h8 : ∀ g, x8 (ix1 g) = BitVec.ofNat 32 (s2 g).val)
    (q p : Fin 9) (i : Fin 16) (o : Fin 9) (c : Fin 16) :
    gathered x2 x3 x4 x5 x6 x7 x8 (ix5 q p i o c) = ((comb wr cgr m1 m2 s1 li s2 q p i o c : ℝ) : EReal) := by
  refine (trip_sum _ _ (triples x4 x5 x6 x8) (scaled x2 x3 x6 x7) q p i o c).trans ?_
  have hz : (broadcastInDim S9x9x16x9x16 ![] bcast_S_S9x9x16x9x16 (constant (F := Ideal) S_ .f32 0x00000000#32)) (ix5 q p i o c) = 0 := Ideal.ofBits_zero_f32
  rw [comb, coe_sum, hz, zero_add]
  refine Finset.sum_congr rfl fun e _ => ?_
  obtain ⟨t0, t1, t2⟩ := triples_at x4 x5 x6 x8 m1 m2 s1 s2 h4 h5 h6 h8 e
  rw [coe_ite, t0, t1, t2, scaled_at x2 x3 x6 x7 wr cgr s1 li h2 h3 h6 h7]
  exact if_congr (and_congr (small_eq (by decide) _ _) (and_congr (small_eq (by decide) _ _) (small_eq (by decide) _ _))) rfl rfl

/-- The first 144 rows of a padded block are the block. -/
theorem padded_at (q : Fin 9) (r : Fin 144) (r' : Fin 256) (hr : r'.val = r.val) (l : Fin 144) : padded x2 x3 x4 x5 x6 x7 x8 (ix3 q r' l)
    = shapeCast S9x144x144 (gathered x2 x3 x4 x5 x6 x7 x8) shapeCasts_S9x9x16x9x16_S9x144x144 (ix3 q r l) := by
  unfold padded
  generalize shapeCast S9x144x144 (gathered x2 x3 x4 x5 x6 x7 x8) shapeCasts_S9x9x16x9x16_S9x144x144 = U
  generalize broadcastInDim S9x256x144 ![] bcast_S_S9x256x144 (constant (F := Ideal) S_ .f32 0x00000000#32) = Z
  have hz : (broadcastInDim S1 ![] bcast_S_S1 (constantI S_ 32 0#32)) (ix1 (0 : Fin 1)) = 0#32 := rfl
  generalize broadcastInDim S1 ![] bcast_S_S1 (constantI S_ 32 0#32) = w at hz ⊢
  exact pad_read scatter_S9x256x144_S1_S9x144x144_012_n_1_0.wf Z w U hz q r r' hr l

/-- Narrowing changes no real number. -/
theorem narrowed_at {s : Shape} (v : FVec Ideal s .f32) (h) (i : s.Idx) : truncf (F := Ideal) .bf16 v h i = v i := rfl

/-- One element of the combined matrix, inside a block's 144 rows. -/
theorem combined_at (h2 : ∀ l i c, x2 (ix4 (0 : Fin 1) l i c) = ((wr l i c : ℝ) : EReal)) (h3 : ∀ e, x3 (ix1 e) = ((cgr e : ℝ) : EReal))
    (h4 : ∀ e, x4 (ix1 e) = BitVec.ofNat 32 (m1 e).val) (h5 : ∀ e, x5 (ix1 e) = BitVec.ofNat 32 (m2 e).val)
    (h6 : ∀ e, x6 (ix1 e) = BitVec.ofNat 32 (s1 e).val) (h7 : ∀ g, x7 (ix1 g) = BitVec.ofNat 32 (li g).val) (h8 : ∀ g, x8 (ix1 g) = BitVec.ofNat 32 (s2 g).val)
    (q p : Fin 9) (i : Fin 16) (o : Fin 9) (c : Fin 16) (k : Fin 2304) (l : Fin 144) (hk : k.val = q.val * 256 + (p.val * 16 + i.val)) (hl : l.val = o.val * 16 + c.val) :
    combined x2 x3 x4 x5 x6 x7 x8 (ix2 k l) = ((comb wr cgr m1 m2 s1 li s2 q p i o c : ℝ) : EReal) := by
  have hp := p.isLt
  have hi := i.isLt
  rw [combined, narrowed_at]
  refine (shapeCast_apply _ shapeCasts_S9x256x144_S2304x144 (ix2 k l) (ix3 q (⟨p.val * 16 + i.val, by omega⟩ : Fin 256) l) ?_).trans ?_
  · rewrite [Shape.rowMajor_val_three, Shape.rowMajor_val_two]
    show (q.val * 256 + (p.val * 16 + i.val)) * 144 + l.val = k.val * 144 + l.val
    omega
  refine (padded_at x2 x3 x4 x5 x6 x7 x8 q (⟨p.val * 16 + i.val, by omega⟩ : Fin 144) _ rfl l).trans ?_
  refine (shapeCast_apply _ shapeCasts_S9x9x16x9x16_S9x144x144 _ (ix5 q p i o c) ?_).trans (gathered_at x2 x3 x4 x5 x6 x7 x8 wr cgr m1 m2 s1 li s2 h2 h3 h4 h5 h6 h7 h8 q p i o c)
  rewrite [Shape.rowMajor_val_five, Shape.rowMajor_val_three]
  show (((q.val * 9 + p.val) * 16 + i.val) * 9 + o.val) * 16 + c.val = (q.val * 144 + (p.val * 16 + i.val)) * 144 + l.val
  omega

end Real

end Cert.Kernel.Host

end
-- ==== Proof.KernelValue.lean ====
/-
  The result at the real numbers: every element is the sum over the entries of the coupling table.
-/
module

public import proofs.«01_k».proof.Proof.KernelRun
public import proofs.«01_k».proof.Proof.KernelHost
public import Idealize.ShloMosaic.Lib.MatmulPlain
public import Idealize.ShloMosaic.Lib.IdealHost

@[expose] public section

set_option maxRecDepth 16384

noncomputable section

namespace Cert.Kernel.Ringed

open Cert.Kernel Cert.Kernel.Gen Cert.Spec
open Idealize.ShloMosaic Idealize.ShloMosaic.TcCoe

/-- The product of a spread block and the matrix, at an element: the sum over the columns. -/
theorem product_at (T : Vec Ideal S2048x2304 .bf16) (K : Vec Ideal S2304x144 .bf16) (z : Fin 1) (r : Fin 2048) (l : Fin 144) :
    k0_pay14 (F := Ideal) T K (ValueIdx.ix3 z r l) = ∑ k : Fin 2304, (T (ValueIdx.ix2 r k) * K (ValueIdx.ix2 k l) : EReal) := by
  unfold k0_pay14
  refine (shapeCast_apply _ shapeCasts_S2048x144_S1x2048x144 (ValueIdx.ix3 z r l) (ValueIdx.ix2 r l) ?_).trans ?_
  · rewrite [Shape.rowMajor_val_two, Shape.rowMajor_val_three]
    have := z.isLt
    show r.val * 144 + l.val = (z.val * 2048 + r.val) * 144 + l.val
    omega
  have hs : shapeCast S2304x144 K shapeCasts_S2304x144_S2304x144 = K := funext fun i => shapeCast_apply K _ i i rfl
  rw [hs]
  refine (Ideal.matmul_plain_apply none T K (constant (F := Ideal) S2048x144 .f32 0x00000000#32) r l).trans ?_
  have hz : (constant (F := Ideal) S2048x144 .f32 0x00000000#32) (ValueIdx.ix2 r l) = (0 : EReal) := Ideal.ofBits_zero_f32
  rw [hz, zero_add]

/-- A sum over the 2304 columns whose pad columns vanish is a sum over harmonics, components and channels. -/
theorem sum_columns (f : Fin 2304 → EReal) (hf : ∀ k : Fin 2304, ¬ k.val % 256 < 144 → f k = 0) :
    ∑ k, f k = ∑ q : Fin 9, ∑ p : Fin 9, ∑ i : Fin 16,
      f (⟨q.val * 256 + (p.val * 16 + i.val), by have := q.isLt; have := p.isLt; have := i.isLt; omega⟩ : Fin 2304) := by
  rw [show (∑ q : Fin 9, ∑ p : Fin 9, ∑ i : Fin 16,
      f (⟨q.val * 256 + (p.val * 16 + i.val), by have := q.isLt; have := p.isLt; have := i.isLt; omega⟩ : Fin 2304))
    = ∑ z : Fin 9 × Fin 9 × Fin 16, f (⟨z.1.val * 256 + (z.2.1.val * 16 + z.2.2.val), by have := z.1.isLt; have := z.2.1.isLt; have := z.2.2.isLt; omega⟩ : Fin 2304)
    from by simp only [Fintype.sum_prod_type]]
  symm
  refine Finset.sum_of_injOn (fun z : Fin 9 × Fin 9 × Fin 16 =>
    (⟨z.1.val * 256 + (z.2.1.val * 16 + z.2.2.val), by have := z.1.isLt; have := z.2.1.isLt; have := z.2.2.isLt; omega⟩ : Fin 2304)) ?_ ?_ ?_ ?_
  · rintro ⟨q, p, i⟩ _ ⟨q', p', i'⟩ _ h
    have h' : q.val * 256 + (p.val * 16 + i.val) = q'.val * 256 + (p'.val * 16 + i'.val) := congrArg Fin.val h
    have := p.isLt; have := i.isLt; have := p'.isLt; have := i'.isLt
    have e1 : q = q' := Fin.ext (by omega)
    have e2 : p = p' := Fin.ext (by omega)
    have e3 : i = i' := Fin.ext (by omega)
    rw [e1, e2, e3]
  · intro z _
    exact Finset.mem_coe.2 (Finset.mem_univ _)
  · intro k _ hk
    refine hf k fun hlt => hk ?_
    have := k.isLt
    refine ⟨(⟨k.val / 256, by omega⟩, ⟨k.val % 256 / 16, by omega⟩, ⟨k.val % 16, by omega⟩), Finset.mem_coe.2 (Finset.mem_univ _), Fin.ext ?_⟩
    show k.val / 256 * 256 + (k.val % 256 / 16 * 16 + k.val % 16) = k.val
    omega
  · intro z _
    rfl

/-- A spread block's column inside a block of 144 holds a product. -/
theorem tRow_in (xb : Vec Ideal S1x2048x144 .f32) (hb : Vec Ideal S1x2048x9 .f32) (r : Fin 2048) (k : Fin 2304) (q : Fin 9) (j : Fin 144)
    (hk : k.val = q.val * 256 + j.val) : tRow xb hb (ValueIdx.ix2 r k) = (xb (ValueIdx.ix3 0 r j) * hb (ValueIdx.ix3 0 r q) : EReal) := by
  have hj := j.isLt
  have hlt : k.val % 256 < 144 := by omega
  refine (dif_pos hlt).trans ?_
  have e1 : (⟨k.val / 256, by have := k.isLt; omega⟩ : Fin 9) = q := Fin.ext (by show k.val / 256 = q.val; omega)
  have e2 : (⟨k.val % 256, hlt⟩ : Fin 144) = j := Fin.ext (by show k.val % 256 = j.val; omega)
  show tE xb hb r (⟨k.val / 256, _⟩ : Fin 9) (⟨k.val % 256, _⟩ : Fin 144) = _
  rw [e1, e2]
  rfl

/-- A spread block's pad column holds zero. -/
theorem tRow_pad (xb : Vec Ideal S1x2048x144 .f32) (hb : Vec Ideal S1x2048x9 .f32) (r : Fin 2048) (k : Fin 2304)
    (hk : ¬ k.val % 256 < 144) : tRow xb hb (ValueIdx.ix2 r k) = (0 : EReal) :=
  (dif_neg hk).trans Ideal.ofBits_zero_bf16

section Real
variable (xr : Fin 32768 → Fin 9 → Fin 16 → ℝ) (shr : Fin 32768 → Fin 9 → ℝ) (wr : Fin 15 → Fin 16 → Fin 16 → ℝ) (cgr : Fin 137 → ℝ)
  (m1 m2 : Fin 137 → Fin 9) (s1 : Fin 137 → Fin 51) (li : Fin 51 → Fin 15) (s2 : Fin 51 → Fin 9)

/-- The flat result at an element, from rows, harmonics and matrix of real numbers. -/
theorem flat_value (X : Vec Ideal S32768x144 .f32) (H : Vec Ideal S32768x9 .f32) (K : Vec Ideal S2304x144 .bf16)
    (hX : ∀ n p i (j : Fin 144), j.val = p.val * 16 + i.val → X (ValueIdx.ix2 n j) = ((xr n p i : ℝ) : EReal))
    (hH : ∀ n q, H (ValueIdx.ix2 n q) = ((shr n q : ℝ) : EReal))
    (hK : ∀ (q p : Fin 9) (i : Fin 16) (o : Fin 9) (c : Fin 16) (k : Fin 2304) (l : Fin 144), k.val = q.val * 256 + (p.val * 16 + i.val) → l.val = o.val * 16 + c.val →
      K (ValueIdx.ix2 k l) = ((comb wr cgr m1 m2 s1 li s2 q p i o c : ℝ) : EReal))
    (n : Fin 32768) (o : Fin 9) (c : Fin 16) (l : Fin 144) (hl : l.val = o.val * 16 + c.val) :
    outV X H K (ValueIdx.ix2 n l) = ((Spec.G xr shr wr cgr m1 m2 s1 li s2 n o c : ℝ) : EReal) := by
  have hn := n.isLt
  refine (product_at (tRow (xBlk X ⟨n.val / 2048, by omega⟩) (hBlk H ⟨n.val / 2048, by omega⟩)) K 0 ⟨n.val % 2048, Nat.mod_lt _ (by decide)⟩ l).trans ?_
  rw [sum_columns _ (fun k hk => by rw [tRow_pad _ _ _ k hk, zero_mul]), ← by_products, coe_sum]
  refine Finset.sum_congr rfl fun q _ => ?_
  rw [coe_sum]
  refine Finset.sum_congr rfl fun p _ => ?_
  rw [coe_sum]
  refine Finset.sum_congr rfl fun i _ => ?_
  have hp := p.isLt
  have hi := i.isLt
  rw [tRow_in _ _ _ _ q (⟨p.val * 16 + i.val, by omega⟩ : Fin 144) rfl, hK q p i o c _ l rfl hl]
  have hrow : (⟨2048 * (n.val / 2048) + n.val % 2048, by omega⟩ : Fin 32768) = n := Fin.ext (Nat.div_add_mod _ _)
  have hx : xBlk X (⟨n.val / 2048, by omega⟩ : Fin 16) (ValueIdx.ix3 (0 : Fin 1) (⟨n.val % 2048, Nat.mod_lt _ (by decide)⟩ : Fin 2048) (⟨p.val * 16 + i.val, by omega⟩ : Fin 144))
      = ((xr n p i : ℝ) : EReal) := by
    refine Eq.trans ?_ (hX n p i (⟨p.val * 16 + i.val, by omega⟩ : Fin 144) rfl)
    show X (ix2 (⟨2048 * (n.val / 2048) + n.val % 2048, _⟩ : Fin 32768) (⟨p.val * 16 + i.val, _⟩ : Fin 144)) = _
    rw [hrow]
    rfl
  have hh : hBlk H (⟨n.val / 2048, by omega⟩ : Fin 16) (ValueIdx.ix3 (0 : Fin 1) (⟨n.val % 2048, Nat.mod_lt _ (by decide)⟩ : Fin 2048) q)
      = ((shr n q : ℝ) : EReal) := by
    refine Eq.trans ?_ (hH n q)
    show H (ix2 (⟨2048 * (n.val / 2048) + n.val % 2048, _⟩ : Fin 32768) (⟨q.val, _⟩ : Fin 9)) = _
    rw [hrow]
    rfl
  rw [hx, hh, EReal.coe_mul, EReal.coe_mul]

/-- The matrix's one block is the matrix. -/
theorem matrix_block (m : (ℓ : Loc nD τ sig) → Buf (Elt Ideal) ℓ) (c : Dev nD) : iblk m c 0 t0_0 = V m c main_v51 := by
  have hz : (fun a => (win0_0.index t0_0) a * main_v51.ty.shape.size a) = fun _ => 0 := funext fun a => by fin_cases a <;> decide
  have hr := fun f => Memref.read_access_unit_zero (Elt Ideal) main_v51 hz (fun a => by fin_cases a <;> decide) f
  unfold iblk
  exact hr _

/-- The result at an element is the sum over the entries of the coupling table. -/
theorem value (m : (ℓ : Loc nD τ sig) → Buf (Elt Ideal) ℓ) (c : Dev nD)
    (h0 : ∀ n p i, (m ((c.tc : Thread nD τ).loc main_arg0) : Vec Ideal S32768x9x16 .f32) (ValueIdx.ix3 n p i) = ((xr n p i : ℝ) : EReal))
    (h1 : ∀ n p, (m ((c.tc : Thread nD τ).loc main_arg1) : Vec Ideal S32768x9 .f32) (ValueIdx.ix2 n p) = ((shr n p : ℝ) : EReal))
    (h2 : ∀ l i c', (m ((c.tc : Thread nD τ).loc main_arg2) : Vec Ideal S1x15x16x16 .f32) (ValueIdx.ix4 (0 : Fin 1) l i c') = ((wr l i c' : ℝ) : EReal))
    (h3 : ∀ e, (m ((c.tc : Thread nD τ).loc main_arg3) : Vec Ideal S137 .f32) (ValueIdx.ix1 e) = ((cgr e : ℝ) : EReal))
    (h4 : ∀ e, (m ((c.tc : Thread nD τ).loc main_arg4) : IVec S137 32) (ValueIdx.ix1 e) = BitVec.ofNat 32 (m1 e).val)
    (h5 : ∀ e, (m ((c.tc : Thread nD τ).loc main_arg5) : IVec S137 32) (ValueIdx.ix1 e) = BitVec.ofNat 32 (m2 e).val)
    (h6 : ∀ e, (m ((c.tc : Thread nD τ).loc main_arg6) : IVec S137 32) (ValueIdx.ix1 e) = BitVec.ofNat 32 (s1 e).val)
    (h7 : ∀ g, (m ((c.tc : Thread nD τ).loc main_arg7) : IVec S51 32) (ValueIdx.ix1 g) = BitVec.ofNat 32 (li g).val)
    (h8 : ∀ g, (m ((c.tc : Thread nD τ).loc main_arg8) : IVec S51 32) (ValueIdx.ix1 g) = BitVec.ofNat 32 (s2 g).val)
    (n : Fin 32768) (o : Fin 9) (c' : Fin 16) :
    shapeCast S32768x9x16 (outFin m c) shapeCasts_S32768x144_S32768x9x16 (ValueIdx.ix3 n o c') = ((Spec.G xr shr wr cgr m1 m2 s1 li s2 n o c' : ℝ) : EReal) := by
  have ho := o.isLt
  have hc := c'.isLt
  refine (shapeCast_apply (s := S32768x144) (outFin m c) shapeCasts_S32768x144_S32768x9x16 (ValueIdx.ix3 n o c')
    (ValueIdx.ix2 n (⟨o.val * 16 + c'.val, by omega⟩ : Fin 144)) ?_).trans ?_
  · rewrite [Shape.rowMajor_val_two, Shape.rowMajor_val_three]
    show n.val * 144 + (o.val * 16 + c'.val) = (n.val * 9 + o.val) * 16 + c'.val
    omega
  refine flat_value xr shr wr cgr m1 m2 s1 li s2 (V m c main_v52) (V m c main_arg1) (iblk m c 0 t0_0) ?_ ?_ ?_ n o c' _ rfl
  · intro n p i j hj
    rw [Host.V_rows]
    refine (shapeCast_apply _ shapeCasts_S32768x9x16_S32768x144 (ValueIdx.ix2 n j) (ValueIdx.ix3 n p i) ?_).trans (h0 n p i)
    rewrite [Shape.rowMajor_val_three, Shape.rowMajor_val_two]
    show (n.val * 9 + p.val) * 16 + i.val = n.val * 144 + j.val
    omega
  · intro n q
    rw [V_main_arg1]
    exact h1 n q
  · intro q p i o c' k l hk hl
    rw [matrix_block, Host.V_matrix]
    exact Host.combined_at _ _ _ _ _ _ _ wr cgr m1 m2 s1 li s2 h2 h3 h4 h5 h6 h7 h8 q p i o c' k l hk hl

end Real

end Cert.Kernel.Ringed

end
-- ==== Proof.RefSide.lean ====
/-
  The reference at the real numbers: its result, read one operation at a time, is the value `G`.
-/
module

public import proofs.«01_k».proof.Proof.Gen.ReferenceIdeal.Read
public import proofs.«01_k».proof.Proof.Spec
public import proofs.«01_k».proof.Proof.Real

@[expose] public section

set_option maxRecDepth 16384

noncomputable section

namespace Cert.ReferenceIdeal.Side

open Cert.ReferenceIdeal Cert.ReferenceIdeal.Read Cert.Spec
open Idealize.ShloMosaic Idealize.ShloMosaic.ValueIdx Idealize.ShloMosaic.Routing

/-! ## The three takes -/

/-- The words of the first take, wrapped, are the words given. -/
theorem words0 (x4 : (⟨S137, .i32⟩ : BufTy).Contents (Elt Ideal)) (m1 : Fin 137 → Fin 9) (h4 : ∀ e, x4 (ix1 e) = BitVec.ofNat 32 (m1 e).val) (e : Fin 137) (z : Fin 1) :
    val_main_call0_v5 (F := Ideal) x4 (ix2 e z) = BitVec.ofNat 32 (m1 e).val := by
  rw [val_main_call0_v5_apply]
  rw [show idx_main_call0_v5 (ix2 e z) = ix1 e from eq_ix1 _]
  rw [val_main_call0_v4_apply, val_main_call0_v1_apply, val_main_call0_v3_apply, val_main_call0_v0_apply, val_main_call0_c_apply, h4]
  exact wrap_small _ (by have := (m1 e).isLt; omega) _

/-- The first take reads the component that the word names. -/
theorem take0 (x0 : (⟨S32768x9x16, .f32⟩ : BufTy).Contents (Elt Ideal)) (x4 : (⟨S137, .i32⟩ : BufTy).Contents (Elt Ideal)) (m1 : Fin 137 → Fin 9)
    (h4 : ∀ e, x4 (ix1 e) = BitVec.ofNat 32 (m1 e).val) (n : Fin 32768) (e : Fin 137) (i : Fin 16) :
    val_main_v0 (F := Ideal) x0 x4 (ix3 n e i) = x0 (ix3 n (m1 e) i) := by
  have hm : ∀ j, val_main_call0_v12 (F := Ideal) x4 j = 1#1 := by
    intro j
    unfold val_main_call0_v12
    refine Host.reduce_andi_one _ _ _ _ _ rfl fun k => ?_
    obtain ⟨e', z, rfl⟩ : ∃ e' z, k = ix2 e' z := ⟨k 0, k 1, eq_ix2 k⟩
    rw [val_main_call0_v11_apply, val_main_call0_v7_apply, val_main_call0_v10_apply, words0 x4 m1 h4, val_main_call0_v6_apply, val_main_call0_c_2_apply,
      val_main_call0_v9_apply, val_main_call0_v8_apply, val_main_call0_c_1_apply]
    exact mask_small _ 8 (by have := (m1 e').isLt; omega) (by decide)
  rw [val_main_v0_apply, val_main_call0_v14_apply, hm]
  exact gather_mid _ x0 (val_main_call0_v5 (F := Ideal) x4) n e i (m1 e) (by decide) (words0 x4 m1 h4 e 0)

/-- The words of the second take, wrapped, are the words given. -/
theorem words1 (x5 : (⟨S137, .i32⟩ : BufTy).Contents (Elt Ideal)) (m2 : Fin 137 → Fin 9) (h5 : ∀ e, x5 (ix1 e) = BitVec.ofNat 32 (m2 e).val) (e : Fin 137) (z : Fin 1) :
    val_main_call1_v5 (F := Ideal) x5 (ix2 e z) = BitVec.ofNat 32 (m2 e).val := by
  rw [val_main_call1_v5_apply]
  rw [show idx_main_call1_v5 (ix2 e z) = ix1 e from eq_ix1 _]
  rw [val_main_call1_v4_apply, val_main_call1_v1_apply, val_main_call1_v3_apply, val_main_call1_v0_apply, val_main_call1_c_apply, h5]
  exact wrap_small _ (by have := (m2 e).isLt; omega) _

/-- The second take reads the harmonic that the word names. -/
theorem take1 (x1 : (⟨S32768x9, .f32⟩ : BufTy).Contents (Elt Ideal)) (x5 : (⟨S137, .i32⟩ : BufTy).Contents (Elt Ideal)) (m2 : Fin 137 → Fin 9)
    (h5 : ∀ e, x5 (ix1 e) = BitVec.ofNat 32 (m2 e).val) (n : Fin 32768) (e : Fin 137) :
    val_main_v1 (F := Ideal) x1 x5 (ix2 n e) = x1 (ix2 n (m2 e)) := by
  have hm : ∀ j, val_main_call1_v12 (F := Ideal) x5 j = 1#1 := by
    intro j
    unfold val_main_call1_v12
    refine Host.reduce_andi_one _ _ _ _ _ rfl fun k => ?_
    obtain ⟨e', z, rfl⟩ : ∃ e' z, k = ix2 e' z := ⟨k 0, k 1, eq_ix2 k⟩
    rw [val_main_call1_v11_apply, val_main_call1_v7_apply, val_main_call1_v10_apply, words1 x5 m2 h5, val_main_call1_v6_apply, val_main_call1_c_2_apply,
      val_main_call1_v9_apply, val_main_call1_v8_apply, val_main_call1_c_1_apply]
    exact mask_small _ 8 (by have := (m2 e').isLt; omega) (by decide)
  rw [val_main_v1_apply, val_main_call1_v14_apply, hm]
  exact gather_col _ x1 (val_main_call1_v5 (F := Ideal) x5) n e (m2 e) (by decide) (words1 x5 m2 h5 e 0)

/-- The words of the third take, wrapped, are the words given. -/
theorem words2 (x7 : (⟨S51, .i32⟩ : BufTy).Contents (Elt Ideal)) (li : Fin 51 → Fin 15) (h7 : ∀ g, x7 (ix1 g) = BitVec.ofNat 32 (li g).val) (g : Fin 51) (z : Fin 1) :
    val_main_call2_v5 (F := Ideal) x7 (ix2 g z) = BitVec.ofNat 32 (li g).val := by
  rw [val_main_call2_v5_apply]
  rw [show idx_main_call2_v5 (ix2 g z) = ix1 g from eq_ix1 _]
  rw [val_main_call2_v4_apply, val_main_call2_v1_apply, val_main_call2_v3_apply, val_main_call2_v0_apply, val_main_call2_c_apply, h7]
  exact wrap_small _ (by have := (li g).isLt; omega) _

/-- The third take reads the weights of the path that the word names. -/
theorem take2 (x2 : (⟨S1x15x16x16, .f32⟩ : BufTy).Contents (Elt Ideal)) (x7 : (⟨S51, .i32⟩ : BufTy).Contents (Elt Ideal)) (li : Fin 51 → Fin 15)
    (h7 : ∀ g, x7 (ix1 g) = BitVec.ofNat 32 (li g).val) (g : Fin 51) (i c : Fin 16) :
    val_main_v14 (F := Ideal) x2 x7 (ix3 g i c) = val_main_v13 (F := Ideal) x2 (ix3 (li g) i c) := by
  have hm : ∀ j, val_main_call2_v12 (F := Ideal) x7 j = 1#1 := by
    intro j
    unfold val_main_call2_v12
    refine Host.reduce_andi_one _ _ _ _ _ rfl fun k => ?_
    obtain ⟨e', z, rfl⟩ : ∃ e' z, k = ix2 e' z := ⟨k 0, k 1, eq_ix2 k⟩
    rw [val_main_call2_v11_apply, val_main_call2_v7_apply, val_main_call2_v10_apply, words2 x7 li h7, val_main_call2_v6_apply, val_main_call2_c_2_apply,
      val_main_call2_v9_apply, val_main_call2_v8_apply, val_main_call2_c_1_apply]
    exact mask_small _ 14 (by have := (li e').isLt; omega) (by decide)
  rw [val_main_v14_apply, val_main_call2_v14_apply, hm]
  exact gather_head _ (val_main_v13 (F := Ideal) x2) (val_main_call2_v5 (F := Ideal) x7) g i c (li g) (by decide) (words2 x7 li h7 g 0)

/-! ## The result -/

variable (x0 : (⟨S32768x9x16, .f32⟩ : BufTy).Contents (Elt Ideal)) (x1 : (⟨S32768x9, .f32⟩ : BufTy).Contents (Elt Ideal))
  (x2 : (⟨S1x15x16x16, .f32⟩ : BufTy).Contents (Elt Ideal)) (x3 : (⟨S137, .f32⟩ : BufTy).Contents (Elt Ideal))
  (x4 x5 x6 : (⟨S137, .i32⟩ : BufTy).Contents (Elt Ideal)) (x7 x8 : (⟨S51, .i32⟩ : BufTy).Contents (Elt Ideal))
  (xr : Fin 32768 → Fin 9 → Fin 16 → ℝ) (shr : Fin 32768 → Fin 9 → ℝ) (wr : Fin 15 → Fin 16 → Fin 16 → ℝ) (cgr : Fin 137 → ℝ)
  (m1 m2 : Fin 137 → Fin 9) (s1 : Fin 137 → Fin 51) (li : Fin 51 → Fin 15) (s2 : Fin 51 → Fin 9)

/-- A word that is a small number names the segment of that number and no other. -/
theorem word_eq {N : Nat} (hN : N < 2 ^ 31) (k g : Fin N) : (BitVec.ofNat 32 k.val).toInt = (g.val : Int) ↔ k = g := by
  rw [StableHlo.Predicate.toInt_ofNat_small _ (by have := k.isLt; omega)]
  exact ⟨fun h => Fin.ext (by omega), fun h => by rw [h]⟩

/-- The product of coefficient, harmonic and input at one entry. -/
theorem product_value (h0 : ∀ n p i, x0 (ix3 n p i) = ((xr n p i : ℝ) : EReal)) (h1 : ∀ n p, x1 (ix2 n p) = ((shr n p : ℝ) : EReal))
    (h3 : ∀ e, x3 (ix1 e) = ((cgr e : ℝ) : EReal)) (h4 : ∀ e, x4 (ix1 e) = BitVec.ofNat 32 (m1 e).val) (h5 : ∀ e, x5 (ix1 e) = BitVec.ofNat 32 (m2 e).val)
    (e : Fin 137) (n : Fin 32768) (i : Fin 16) :
    val_main_v8 (F := Ideal) x0 x1 x3 x4 x5 (ix3 e n i) = ((cgr e * shr n (m2 e) * xr n (m1 e) i : ℝ) : EReal) := by
  rw [val_main_v8_apply, show idx_main_v8 (ix3 e n i) = ix3 n e i from eq_ix3 _, val_main_v7_apply, take0 x0 x4 m1 h4, val_main_v6_apply, val_main_v5_apply,
    show idx_main_v5 (idx_main_v6 (ix3 n e i)) = ix2 n e from eq_ix2 _, val_main_v4_apply, take1 x1 x5 m2 h5, val_main_v3_apply, val_main_v2_apply,
    show idx_main_v2 (idx_main_v3 (ix2 n e)) = ix1 e from eq_ix1 _, h0, h1, h3]
  show ((cgr e : EReal) * (shr n (m2 e) : EReal)) * (xr n (m1 e) i : EReal) = _
  rw [EReal.coe_mul, EReal.coe_mul]

/-- The first segment sum. -/
theorem seg_value (h0 : ∀ n p i, x0 (ix3 n p i) = ((xr n p i : ℝ) : EReal)) (h1 : ∀ n p, x1 (ix2 n p) = ((shr n p : ℝ) : EReal))
    (h3 : ∀ e, x3 (ix1 e) = ((cgr e : ℝ) : EReal)) (h4 : ∀ e, x4 (ix1 e) = BitVec.ofNat 32 (m1 e).val) (h5 : ∀ e, x5 (ix1 e) = BitVec.ofNat 32 (m2 e).val)
    (h6 : ∀ e, x6 (ix1 e) = BitVec.ofNat 32 (s1 e).val) (g : Fin 51) (n : Fin 32768) (i : Fin 16) :
    val_main_v11 (F := Ideal) x0 x1 x3 x4 x5 x6 (ix3 g n i) = ((seg xr shr cgr m1 m2 s1 g n i : ℝ) : EReal) := by
  refine (seg_sum _ (val_main_v9 (F := Ideal)) (val_main_v10 (F := Ideal) x6) (val_main_v8 (F := Ideal) x0 x1 x3 x4 x5) g n i).trans ?_
  rw [seg, coe_sum, val_main_v9_apply, val_main_cst_apply]
  rw [show (FloatOps.ofBits .f32 0#32 : Ideal .f32) = 0 from Ideal.ofBits_zero_f32, zero_add]
  refine Finset.sum_congr rfl fun e _ => ?_
  rw [coe_ite, product_value x0 x1 x3 x4 x5 xr shr cgr m1 m2 h0 h1 h3 h4 h5, val_main_v10_apply,
    show idx_main_v10 (ix2 e (0 : Fin 1)) = ix1 e from eq_ix1 _, h6]
  exact if_congr (word_eq (by decide) _ _) rfl rfl

/-- The reference's result at an element. -/
theorem value (h0 : ∀ n p i, x0 (ix3 n p i) = ((xr n p i : ℝ) : EReal)) (h1 : ∀ n p, x1 (ix2 n p) = ((shr n p : ℝ) : EReal))
    (h2 : ∀ l i c, x2 (ix4 (0 : Fin 1) l i c) = ((wr l i c : ℝ) : EReal))
    (h3 : ∀ e, x3 (ix1 e) = ((cgr e : ℝ) : EReal)) (h4 : ∀ e, x4 (ix1 e) = BitVec.ofNat 32 (m1 e).val) (h5 : ∀ e, x5 (ix1 e) = BitVec.ofNat 32 (m2 e).val)
    (h6 : ∀ e, x6 (ix1 e) = BitVec.ofNat 32 (s1 e).val) (h7 : ∀ g, x7 (ix1 g) = BitVec.ofNat 32 (li g).val) (h8 : ∀ g, x8 (ix1 g) = BitVec.ofNat 32 (s2 g).val)
    (n : Fin 32768) (o : Fin 9) (c : Fin 16) :
    val_main_v21 (F := Ideal) x0 x1 x2 x3 x4 x5 x6 x7 x8 (ix3 n o c) = ((G xr shr wr cgr m1 m2 s1 li s2 n o c : ℝ) : EReal) := by
  rw [val_main_v21_apply, show idx_main_v21 (ix3 n o c) = ix3 o n c from eq_ix3 _]
  refine (seg_sum _ (val_main_v18 (F := Ideal)) (val_main_v19 (F := Ideal) x8) (val_main_v17 (F := Ideal) x0 x1 x2 x3 x4 x5 x6 x7) o n c).trans ?_
  rw [← by_segments, coe_sum, val_main_v18_apply, val_main_cst_0_apply]
  rw [show (FloatOps.ofBits .f32 0#32 : Ideal .f32) = 0 from Ideal.ofBits_zero_f32, zero_add]
  refine Finset.sum_congr rfl fun g _ => ?_
  rw [coe_ite, val_main_v19_apply, show idx_main_v19 (ix2 g (0 : Fin 1)) = ix1 g from eq_ix1 _, h8]
  refine if_congr (word_eq (by decide) _ _) ?_ rfl
  rw [val_main_v17_apply, show idx_main_v17 (ix3 g n c) = ix3 n g c from eq_ix3 _, val_main_v16_apply, show idx_main_v16 (ix3 n g c) = ix3 g c n from eq_ix3 _,
    val_main_v15_apply, coe_sum]
  refine Finset.sum_congr rfl fun i _ => ?_
  rw [show lidx_main_v15 (ix3 g c n) i = ix3 g i c from eq_ix3 _, show ridx_main_v15 (ix3 g c n) i = ix3 n g i from eq_ix3 _, take2 x2 x7 li h7,
    val_main_v12_apply, show idx_main_v12 (ix3 n g i) = ix3 g n i from eq_ix3 _, seg_value x0 x1 x3 x4 x5 x6 xr shr cgr m1 m2 s1 h0 h1 h3 h4 h5 h6,
    val_main_v13_apply, show idx_main_v13 (ix3 (li g) i c) = ix4 (0 : Fin 1) (li g) i c from ?_, h2, EReal.coe_mul]
  funext a
  refine Fin.ext ?_
  have hl := (li g).isLt
  have hi := i.isLt
  have hc := c.isLt
  match a with
  | ⟨0, _⟩ => rfl
  | ⟨1, _⟩ => show (((li g).val * 16 + i.val) * 16 + c.val) / 256 % 15 = (li g).val; omega
  | ⟨2, _⟩ => show (((li g).val * 16 + i.val) * 16 + c.val) / 16 % 16 = i.val; omega
  | ⟨3, _⟩ => show (((li g).val * 16 + i.val) * 16 + c.val) % 16 = c.val; omega

end Cert.ReferenceIdeal.Side

end
-- ==== Proof.PreRead.lean ====
/-
  What the precondition gives of each argument: finite floats are real numbers, index words small numbers.
-/
module

public import proofs.«01_k».proof.Defs
public import proofs.«01_k».proof.Proof.Spec
public import Idealize.ShloMosaic.Lib.Pipeline.Value

@[expose] public section

noncomputable section

namespace Cert.PreRead

open Cert.Spec Cert.Pre_finite_and_in_range
open Idealize.ShloMosaic Idealize.ShloMosaic.ValueIdx

/-- An element between the two infinities is a real number. -/
theorem real_of_bits {s : Shape} (x lo hi : FVec Ideal s .f32) (hlo : ∀ i, lo i = (⊥ : EReal)) (hhi : ∀ i, hi i = (⊤ : EReal))
    (h : andi (cmpf .ogt x lo) (cmpf .olt x hi) = fun _ => 1#1) (i : s.Idx) : ∃ r : ℝ, x i = ((r : ℝ) : EReal) := by
  have h' : IntOp.andi (Ideal.cmp .ogt (x i) (lo i)) (Ideal.cmp .olt (x i) (hi i)) = 1#1 := congrFun h i
  rw [hlo, hhi] at h'
  have both : ∀ a b : Bool, IntOp.andi (BitVec.ofBool a) (BitVec.ofBool b) = 1#1 → a = true ∧ b = true := by decide
  obtain ⟨ha, hb⟩ := both (decide ((⊥ : EReal) < x i)) (decide (x i < (⊤ : EReal))) h'
  exact ⟨EReal.toReal (x i), (EReal.coe_toReal (of_decide_eq_true hb).ne (of_decide_eq_true ha).ne').symm⟩

/-- A word in the range is a number below it. -/
theorem word_of_bits {s : Shape} (n : Nat) (hn : n < 2 ^ 31) (x lo hi : IVec s 32) (hlo : ∀ i, lo i = 0#32) (hhi : ∀ i, hi i = BitVec.ofNat 32 n)
    (h : andi (cmpi .sge x lo) (cmpi .sle x hi) = fun _ => 1#1) (i : s.Idx) : ∃ k : Fin (n + 1), x i = BitVec.ofNat 32 k.val := by
  have h' : IntOp.andi (IntOp.cmpi .sge (x i) (lo i)) (IntOp.cmpi .sle (x i) (hi i)) = 1#1 := congrFun h i
  rw [hlo, hhi] at h'
  exact ⟨⟨(x i).toNat, Nat.lt_succ_of_le (range_of_bits hn h')⟩, by rw [BitVec.ofNat_toNat, BitVec.setWidth_eq]⟩

/-- The word of minus infinity. -/
theorem low : (FloatOps.ofBits .f32 0xFF800000#32 : Ideal .f32) = (⊥ : EReal) := by
  show Ideal.ofBits .f32 0xFF800000#32 = ⊥
  simp [Ideal.ofBits, Ideal.ieee]
/-- The word of plus infinity. -/
theorem high : (FloatOps.ofBits .f32 0x7F800000#32 : Ideal .f32) = (⊤ : EReal) := by
  show Ideal.ofBits .f32 0x7F800000#32 = ⊤
  simp [Ideal.ofBits, Ideal.ieee]

variable [Facts] (a0 : FVec Ideal S32768x9x16 .f32) (a1 : FVec Ideal S32768x9 .f32) (a2 : FVec Ideal S1x15x16x16 .f32) (a3 : FVec Ideal S137 .f32)
  (a4 a5 a6 : IVec S137 32) (a7 a8 : IVec S51 32)

/-- The first argument's elements are real numbers. -/
theorem arg0 (h : (fn (F := Ideal) a0 a1 a2 a3 a4 a5 a6 a7 a8).1 = fun _ => 1#1) (i) : ∃ r : ℝ, a0 i = ((r : ℝ) : EReal) :=
  real_of_bits a0 _ _ (fun _ => low) (fun _ => high) h i
/-- The second argument's elements are real numbers. -/
theorem arg1 (h : (fn (F := Ideal) a0 a1 a2 a3 a4 a5 a6 a7 a8).2.1 = fun _ => 1#1) (i) : ∃ r : ℝ, a1 i = ((r : ℝ) : EReal) :=
  real_of_bits a1 _ _ (fun _ => low) (fun _ => high) h i
/-- The third argument's elements are real numbers. -/
theorem arg2 (h : (fn (F := Ideal) a0 a1 a2 a3 a4 a5 a6 a7 a8).2.2.1 = fun _ => 1#1) (i) : ∃ r : ℝ, a2 i = ((r : ℝ) : EReal) :=
  real_of_bits a2 _ _ (fun _ => low) (fun _ => high) h i
/-- The fourth argument's elements are real numbers. -/
theorem arg3 (h : (fn (F := Ideal) a0 a1 a2 a3 a4 a5 a6 a7 a8).2.2.2.1 = fun _ => 1#1) (i) : ∃ r : ℝ, a3 i = ((r : ℝ) : EReal) :=
  real_of_bits a3 _ _ (fun _ => low) (fun _ => high) h i
/-- The fifth argument's words are components. -/
theorem arg4 (h : (fn (F := Ideal) a0 a1 a2 a3 a4 a5 a6 a7 a8).2.2.2.2.1 = fun _ => 1#1) (i) : ∃ k : Fin 9, a4 i = BitVec.ofNat 32 k.val :=
  word_of_bits 8 (by decide) a4 _ _ (fun _ => rfl) (fun _ => rfl) h i
/-- The sixth argument's words are harmonics. -/
theorem arg5 (h : (fn (F := Ideal) a0 a1 a2 a3 a4 a5 a6 a7 a8).2.2.2.2.2.1 = fun _ => 1#1) (i) : ∃ k : Fin 9, a5 i = BitVec.ofNat 32 k.val :=
  word_of_bits 8 (by decide) a5 _ _ (fun _ => rfl) (fun _ => rfl) h i
/-- The seventh argument's words are paths. -/
theorem arg6 (h : (fn (F := Ideal) a0 a1 a2 a3 a4 a5 a6 a7 a8).2.2.2.2.2.2.1 = fun _ => 1#1) (i) : ∃ k : Fin 51, a6 i = BitVec.ofNat 32 k.val :=
  word_of_bits 50 (by decide) a6 _ _ (fun _ => rfl) (fun _ => rfl) h i
/-- The eighth argument's words are weight matrices. -/
theorem arg7 (h : (fn (F := Ideal) a0 a1 a2 a3 a4 a5 a6 a7 a8).2.2.2.2.2.2.2.1 = fun _ => 1#1) (i) : ∃ k : Fin 15, a7 i = BitVec.ofNat 32 k.val :=
  word_of_bits 14 (by decide) a7 _ _ (fun _ => rfl) (fun _ => rfl) h i
/-- The ninth argument's words are components. -/
theorem arg8 (h : (fn (F := Ideal) a0 a1 a2 a3 a4 a5 a6 a7 a8).2.2.2.2.2.2.2.2 = fun _ => 1#1) (i) : ∃ k : Fin 9, a8 i = BitVec.ofNat 32 k.val :=
  word_of_bits 8 (by decide) a8 _ _ (fun _ => rfl) (fun _ => rfl) h i

end Cert.PreRead

end
-- ==== Proof.lean ====
/-
  The certificate: the runs of the kernel at both instances and of the reference, and their equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_and_in_range
public import proofs.«01_k».proof.Proof.KernelRun
public import proofs.«01_k».proof.Proof.Same
public import proofs.«01_k».proof.Proof.KernelValue
public import proofs.«01_k».proof.Proof.RefSide
public import proofs.«01_k».proof.Proof.PreRead
public import Idealize.ShloMosaic.Adequacy
public import Idealize.ShloMosaic.Init

@[expose] public section

noncomputable section

namespace Cert.Proof

open Idealize.ShloMosaic Idealize.SL.Sem Cert.Kernel

/-- The kernel at machine words runs to the end, its arguments unchanged and every semaphore at zero. -/
theorem kernel_frame : Cert.quiescent_Kernel := fun m ρ _ =>
  (θ_run Cert.Kernel.defs _ _).mono (fun _ h => ⟨fun c => (h.1 c).2, h.2⟩) (Cert.Kernel.Ringed.run (F := Bits) m ρ)

/-- The same over the extended reals. -/
theorem ideal_frame : Cert.quiescent_KernelIdeal := fun m ρ _ =>
  (θ_run Cert.KernelIdeal.defs _ _).mono (fun _ h => ⟨fun c => (h.1 c).2, h.2⟩) (Cert.Same.run (F := Ideal) m ρ)

/-- The reference runs to the end, its arguments unchanged and every semaphore at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that agree and lie in range, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_finite_and_in_range m)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v21 (F := Ideal) m' c
      = shapeCast Cert.Kernel.S32768x9x16 (Cert.Kernel.Ringed.outFin (F := Ideal) m c) Cert.Kernel.Gen.shapeCasts_S32768x144_S32768x9x16 := by
  obtain ⟨p0, p1, p2, p3, p4, p5, p6, p7, p8⟩ := hpre c
  choose xr h0 using Cert.PreRead.arg0 _ _ _ _ _ _ _ _ _ p0
  choose shr h1 using Cert.PreRead.arg1 _ _ _ _ _ _ _ _ _ p1
  choose wr h2 using Cert.PreRead.arg2 _ _ _ _ _ _ _ _ _ p2
  choose cgr h3 using Cert.PreRead.arg3 _ _ _ _ _ _ _ _ _ p3
  choose m1 h4 using Cert.PreRead.arg4 _ _ _ _ _ _ _ _ _ p4
  choose m2 h5 using Cert.PreRead.arg5 _ _ _ _ _ _ _ _ _ p5
  choose s1 h6 using Cert.PreRead.arg6 _ _ _ _ _ _ _ _ _ p6
  choose li h7 using Cert.PreRead.arg7 _ _ _ _ _ _ _ _ _ p7
  choose s2 h8 using Cert.PreRead.arg8 _ _ _ _ _ _ _ _ _ p8
  refine (Cert.ReferenceIdeal.Read.val_main_v21_eq m' c).trans ?_
  rw [a0, a1, a2, a3, a4, a5, a6, a7, a8]
  funext j
  obtain ⟨n, o, k, rfl⟩ : ∃ n o k, j = ValueIdx.ix3 n o k := ⟨j 0, j 1, j 2, ValueIdx.eq_ix3 j⟩
  exact (Cert.ReferenceIdeal.Side.value _ _ _ _ _ _ _ _ _ (fun n p i => xr (ValueIdx.ix3 n p i)) (fun n p => shr (ValueIdx.ix2 n p))
      (fun l i k => wr (ValueIdx.ix4 0 l i k)) (fun e => cgr (ValueIdx.ix1 e)) (fun e => m1 (ValueIdx.ix1 e)) (fun e => m2 (ValueIdx.ix1 e))
      (fun e => s1 (ValueIdx.ix1 e)) (fun g => li (ValueIdx.ix1 g)) (fun g => s2 (ValueIdx.ix1 g))
      (fun _ _ _ => h0 _) (fun _ _ => h1 _) (fun _ _ _ => h2 _) (fun _ => h3 _) (fun _ => h4 _) (fun _ => h5 _) (fun _ => h6 _) (fun _ => h7 _) (fun _ => h8 _) n o k).trans
    (Cert.Kernel.Ringed.value _ _ _ _ _ _ _ _ _ m c
      (fun _ _ _ => h0 _) (fun _ _ => h1 _) (fun _ _ _ => h2 _) (fun _ => h3 _) (fun _ => h4 _) (fun _ => h5 _) (fun _ => h6 _) (fun _ => h7 _) (fun _ => h8 _) n o k).symm

/-- From arguments that agree and lie in range, kernel and reference both run and end with equal results. -/
theorem equal_results : Cert.algebraic_KernelIdeal_ReferenceIdeal_pre_finite_and_in_range := by
  intro m g m' g' hpre hagree
  refine ⟨fun c => shapeCast Cert.Kernel.S32768x9x16 (Cert.Kernel.Ringed.outFin (F := Ideal) m c) Cert.Kernel.Gen.shapeCasts_S32768x144_S32768x9x16, ?_, ?_⟩
  · exact (θ_run Cert.KernelIdeal.defs _ _).mono (fun _ h c => h.1 c) (Cert.Same.run (F := Ideal) m g)
  · refine (θ_run Cert.ReferenceIdeal.defs _ _).mono (fun _ h c => ⟨(h c).1.trans ?_, (h c).2⟩) (Cert.ReferenceIdeal.Value.run (F := Ideal) m' g')
    obtain ⟨a0, a1, a2, a3, a4, a5, a6, a7, a8⟩ := hagree c
    exact results_eq m m' hpre c a0 a1 a2 a3 a4 a5 a6 a7 a8

/-- Everything the certificate claims. -/
theorem claim : Cert.Claim :=
  ⟨Cert.Kernel.Gen.facts, Cert.KernelIdeal.Gen.facts, Cert.ReferenceIdeal.Gen.facts, Cert.Pre_finite_and_in_range.Gen.facts,
    kernel_frame, ideal_frame, fun m ρ _ => ideal_frame m ρ trivial, reference_frame, fun m ρ _ => reference_frame m ρ trivial, trivial, equal_results⟩

end Cert.Proof

end
